-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clusters_within_hops [hPre_clusters_within_hops : Cert.Pre_clusters_within_hops.Facts] (m : (ℓ : Loc Cert.KernelIdeal.nD Cert.KernelIdeal.τ Cert.KernelIdeal.sig) → Buf (Elt Ideal) ℓ) : Prop :=
  ∀ c : Dev Cert.KernelIdeal.nD,
    (Cert.Pre_clusters_within_hops.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clusters_within_hops [hPre_clusters_within_hops : Cert.Pre_clusters_within_hops.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clusters_within_hops.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_clusters_within_hops [hKernelIdeal : Cert.KernelIdeal.Facts] [hPre_clusters_within_hops : Cert.Pre_clusters_within_hops.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clusters_within_hops m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_clusters_within_hops [hReferenceIdeal : Cert.ReferenceIdeal.Facts] [hPre_clusters_within_hops : Cert.Pre_clusters_within_hops.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clusters_within_hops m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_clusters_within_hops [hKernelIdeal : Cert.KernelIdeal.Facts] [hReferenceIdeal : Cert.ReferenceIdeal.Facts] [hPre_clusters_within_hops : Cert.Pre_clusters_within_hops.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clusters_within_hops m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_clusters_within_hops : Cert.Pre_clusters_within_hops.Facts),
    quiescent_Kernel (hKernel := hKernel)
    ∧ quiescent_KernelIdeal (hKernelIdeal := hKernelIdeal)
    ∧ quiescent_KernelIdeal_pre_clusters_within_hops (hKernelIdeal := hKernelIdeal) (hPre_clusters_within_hops := hPre_clusters_within_hops)
    ∧ quiescent_ReferenceIdeal (hReferenceIdeal := hReferenceIdeal)
    ∧ quiescent_ReferenceIdeal_pre_clusters_within_hops (hReferenceIdeal := hReferenceIdeal) (hPre_clusters_within_hops := hPre_clusters_within_hops)
    ∧ preserves_Kernel_KernelIdeal
    ∧ algebraic_KernelIdeal_ReferenceIdeal_pre_clusters_within_hops (hKernelIdeal := hKernelIdeal) (hReferenceIdeal := hReferenceIdeal) (hPre_clusters_within_hops := hPre_clusters_within_hops)
-- ==== Pre_clusters_within_hops.lean ====
abbrev S4096x8 : Shape := ⟨2, ![4096, 8]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩

class Facts : Prop where
  reducesTo_S4096x8_S4096_d1 : S4096x8.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x8_S8x4096_1_0 : S4096x8.Transposes [1, 0] S8x4096
  bcast_S_S4096x4096 : S_.BroadcastsInDim S4096x4096 (![] : Fin 0 → Fin S4096x4096.rank)
  natLt_1_32 : 1 < 32
  reducesTo_S4096x4096_S4096_d1 : S4096x4096.ReducesTo [1] S4096
  bcast_S_S4096 : S_.BroadcastsInDim S4096 (![] : Fin 0 → Fin S4096.rank)
  dot_S4096x8_S8x4096_S4096x4096_1_0_0_1_n_n_wf : DotDims.WF S4096x8 S8x4096 S4096x4096 [1] [0] [0] [1] [] []

variable [Facts]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def fn_where {F : FTy → Type} [FloatOps F] (arg0 : IVec S4096 1) (arg1 : IVec S4096 32) (arg2 : IVec S_ 32) : IVec S4096 32 :=
  let v0 : IVec S_ 32 := id arg2
  let v1 : IVec S4096 32 := broadcastInDim S4096 ![] bcast_S_S4096 v0
  let v2 : IVec S4096 32 := select arg0 arg1 v1
  v2

def fn_where_0 {F : FTy → Type} [FloatOps F] (arg0 : IVec S4096x4096 1) (arg1 : IVec S1x4096 32) (arg2 : IVec S_ 32) : IVec S4096x4096 32 :=
  let v0 : IVec S_ 32 := id arg2
  let v1 : IVec S4096x4096 32 := broadcastInDim S4096x4096 ![0, 1] bcast_S1x4096_S4096x4096_0_1 arg1
  let v2 : IVec S4096x4096 32 := broadcastInDim S4096x4096 ![] bcast_S_S4096x4096 v0
  let v3 : IVec S4096x4096 32 := select arg0 v1 v2
  v3

def fn_part9 {F : FTy → Type} [FloatOps F] (main_v25 : IVec S4096x4096 1) (main_v147 : IVec S4096 32) (main_v148 : IVec S1x4096 32) : IVec S4096 1 :=
  let main_c_65 : IVec S_ 32 := constantI S_ 32 4096#32
  let main_v149 : IVec S4096x4096 32 := fn_where_0 (F := F) main_v25 main_v148 main_c_65
  let main_c_66 : IVec S_ 32 := constantI S_ 32 2147483647#32
  let main_v150 : IVec S4096 32 := (fun x v => Host.reduce IntOp.minsi x v reducesTo_S4096x4096_S4096_d1 h_S_) main_v149 main_c_66
  let main_v151 : IVec S4096 32 := minsi main_v147 main_v150
  let main_v152 : IVec S1x4096 32 := broadcastInDim S1x4096 ![1] bcast_S4096_S1x4096_1 main_v151
  let main_c_67 : IVec S_ 32 := constantI S_ 32 4096#32
  let main_v153 : IVec S4096x4096 32 := fn_where_0 (F := F) main_v25 main_v152 main_c_67
  let main_c_68 : IVec S_ 32 := constantI S_ 32 2147483647#32
  let main_v154 : IVec S4096 32 := (fun x v => Host.reduce IntOp.minsi x v reducesTo_S4096x4096_S4096_d1 h_S_) main_v153 main_c_68
  let main_v155 : IVec S4096 32 := minsi main_v151 main_v154
  let main_v156 : IVec S1x4096 32 := broadcastInDim S1x4096 ![1] bcast_S4096_S1x4096_1 main_v155
  let main_c_69 : IVec S_ 32 := constantI S_ 32 4096#32
  let main_v157 : IVec S4096x4096 32 := fn_where_0 (F := F) main_v25 main_v156 main_c_69
  let main_c_70 : IVec S_ 32 := constantI S_ 32 2147483647#32
  let main_v158 : IVec S4096 32 := (fun x v => Host.reduce IntOp.minsi x v reducesTo_S4096x4096_S4096_d1 h_S_) main_v157 main_c_70
  let main_v159 : IVec S4096 32 := minsi main_v155 main_v158
  let main_v160 : IVec S4096 1 := cmpi .eq main_v159 main_v155
  main_v160

def fn_part8 {F : FTy → Type} [FloatOps F] (main_v25 : IVec S4096x4096 1) (main_v131 : IVec S4096 32) (main_v132 : IVec S1x4096 32) : IVec S4096 1 :=
  let main_c_57 : IVec S_ 32 := constantI S_ 32 4096#32
  let main_v133 : IVec S4096x4096 32 := fn_where_0 (F := F) main_v25 main_v132 main_c_57
  let main_c_58 : IVec S_ 32 := constantI S_ 32 2147483647#32
  let main_v134 : IVec S4096 32 := (fun x v => Host.reduce IntOp.minsi x v reducesTo_S4096x4096_S4096_d1 h_S_) main_v133 main_c_58
  let main_v135 : IVec S4096 32 := minsi main_v131 main_v134
  let main_v136 : IVec S1x4096 32 := broadcastInDim S1x4096 ![1] bcast_S4096_S1x4096_1 main_v135
  let main_c_59 : IVec S_ 32 := constantI S_ 32 4096#32
  let main_v137 : IVec S4096x4096 32 := fn_where_0 (F := F) main_v25 main_v136 main_c_59
  let main_c_60 : IVec S_ 32 := constantI S_ 32 2147483647#32
  let main_v138 : IVec S4096 32 := (fun x v => Host.reduce IntOp.minsi x v reducesTo_S4096x4096_S4096_d1 h_S_) main_v137 main_c_60
  let main_v139 : IVec S4096 32 := minsi main_v135 main_v138
  let main_v140 : IVec S1x4096 32 := broadcastInDim S1x4096 ![1] bcast_S4096_S1x4096_1 main_v139
  let main_c_61 : IVec S_ 32 := constantI S_ 32 4096#32
  let main_v141 : IVec S4096x4096 32 := fn_where_0 (F := F) main_v25 main_v140 main_c_61
  let main_c_62 : IVec S_ 32 := constantI S_ 32 2147483647#32
  let main_v142 : IVec S4096 32 := (fun x v => Host.reduce IntOp.minsi x v reducesTo_S4096x4096_S4096_d1 h_S_) main_v141 main_c_62
  let main_v143 : IVec S4096 32 := minsi main_v139 main_v142
  let main_v144 : IVec S1x4096 32 := broadcastInDim S1x4096 ![1] bcast_S4096_S1x4096_1 main_v143
  let main_c_63 : IVec S_ 32 := constantI S_ 32 4096#32
  let main_v145 : IVec S4096x4096 32 := fn_where_0 (F := F) main_v25 main_v144 main_c_63
  let main_c_64 : IVec S_ 32 := constantI S_ 32 2147483647#32
  let main_v146 : IVec S4096 32 := (fun x v => Host.reduce IntOp.minsi x v reducesTo_S4096x4096_S4096_d1 h_S_) main_v145 main_c_64
  let main_v147 : IVec S4096 32 := minsi main_v143 main_v146
  let main_v148 : IVec S1x4096 32 := broadcastInDim S1x4096 ![1] bcast_S4096_S1x4096_1 main_v147
  fn_part9 (F := F) main_v25 main_v147 main_v148

def fn_part7 {F : FTy → Type} [FloatOps F] (main_v25 : IVec S4096x4096 1) (main_v115 : IVec S4096 32) (main_v116 : IVec S1x4096 32) : IVec S4096 1 :=
  let main_c_49 : IVec S_ 32 := constantI S_ 32 4096#32
  let main_v117 : IVec S4096x4096 32 := fn_where_0 (F := F) main_v25 main_v116 main_c_49
  let main_c_50 : IVec S_ 32 := constantI S_ 32 2147483647#32
  let main_v118 : IVec S4096 32 := (fun x v => Host.reduce IntOp.minsi x v reducesTo_S4096x4096_S4096_d1 h_S_) main_v117 main_c_50
  let main_v119 : IVec S4096 32 := minsi main_v115 main_v118
  let main_v120 : IVec S1x4096 32 := broadcastInDim S1x4096 ![1] bcast_S4096_S1x4096_1 main_v119
  let main_c_51 : IVec S_ 32 := constantI S_ 32 4096#32
  let main_v121 : IVec S4096x4096 32 := fn_where_0 (F := F) main_v25 main_v120 main_c_51
  let main_c_52 : IVec S_ 32 := constantI S_ 32 2147483647#32
  let main_v122 : IVec S4096 32 := (fun x v => Host.reduce IntOp.minsi x v reducesTo_S4096x4096_S4096_d1 h_S_) main_v121 main_c_52
  let main_v123 : IVec S4096 32 := minsi main_v119 main_v122
  let main_v124 : IVec S1x4096 32 := broadcastInDim S1x4096 ![1] bcast_S4096_S1x4096_1 main_v123
  let main_c_53 : IVec S_ 32 := constantI S_ 32 4096#32
  let main_v125 : IVec S4096x4096 32 := fn_where_0 (F := F) main_v25 main_v124 main_c_53
  let main_c_54 : IVec S_ 32 := constantI S_ 32 2147483647#32
  let main_v126 : IVec S4096 32 := (fun x v => Host.reduce IntOp.minsi x v reducesTo_S4096x4096_S4096_d1 h_S_) main_v125 main_c_54
  let main_v127 : IVec S4096 32 := minsi main_v123 main_v126
  let main_v128 : IVec S1x4096 32 := broadcastInDim S1x4096 ![1] bcast_S4096_S1x4096_1 main_v127
  let main_c_55 : IVec S_ 32 := constantI S_ 32 4096#32
  let main_v129 : IVec S4096x4096 32 := fn_where_0 (F := F) main_v25 main_v128 main_c_55
  let main_c_56 : IVec S_ 32 := constantI S_ 32 2147483647#32
  let main_v130 : IVec S4096 32 := (fun x v => Host.reduce IntOp.minsi x v reducesTo_S4096x4096_S4096_d1 h_S_) main_v129 main_c_56
  let main_v131 : IVec S4096 32 := minsi main_v127 main_v130
  let main_v132 : IVec S1x4096 32 := broadcastInDim S1x4096 ![1] bcast_S4096_S1x4096_1 main_v131
  fn_part8 (F := F) main_v25 main_v131 main_v132

def fn_part6 {F : FTy → Type} [FloatOps F] (main_v25 : IVec S4096x4096 1) (main_v99 : IVec S4096 32) (main_v100 : IVec S1x4096 32) : IVec S4096 1 :=
  let main_c_41 : IVec S_ 32 := constantI S_ 32 4096#32
  let main_v101 : IVec S4096x4096 32 := fn_where_0 (F := F) main_v25 main_v100 main_c_41
  let main_c_42 : IVec S_ 32 := constantI S_ 32 2147483647#32
  let main_v102 : IVec S4096 32 := (fun x v => Host.reduce IntOp.minsi x v reducesTo_S4096x4096_S4096_d1 h_S_) main_v101 main_c_42
  let main_v103 : IVec S4096 32 := minsi main_v99 main_v102
  let main_v104 : IVec S1x4096 32 := broadcastInDim S1x4096 ![1] bcast_S4096_S1x4096_1 main_v103
  let main_c_43 : IVec S_ 32 := constantI S_ 32 4096#32
  let main_v105 : IVec S4096x4096 32 := fn_where_0 (F := F) main_v25 main_v104 main_c_43
  let main_c_44 : IVec S_ 32 := constantI S_ 32 2147483647#32
  let main_v106 : IVec S4096 32 := (fun x v => Host.reduce IntOp.minsi x v reducesTo_S4096x4096_S4096_d1 h_S_) main_v105 main_c_44
  let main_v107 : IVec S4096 32 := minsi main_v103 main_v106
  let main_v108 : IVec S1x4096 32 := broadcastInDim S1x4096 ![1] bcast_S4096_S1x4096_1 main_v107
  let main_c_45 : IVec S_ 32 := constantI S_ 32 4096#32
  let main_v109 : IVec S4096x4096 32 := fn_where_0 (F := F) main_v25 main_v108 main_c_45
  let main_c_46 : IVec S_ 32 := constantI S_ 32 2147483647#32
  let main_v110 : IVec S4096 32 := (fun x v => Host.reduce IntOp.minsi x v reducesTo_S4096x4096_S4096_d1 h_S_) main_v109 main_c_46
  let main_v111 : IVec S4096 32 := minsi main_v107 main_v110
  let main_v112 : IVec S1x4096 32 := broadcastInDim S1x4096 ![1] bcast_S4096_S1x4096_1 main_v111
  let main_c_47 : IVec S_ 32 := constantI S_ 32 4096#32
  let main_v113 : IVec S4096x4096 32 := fn_where_0 (F := F) main_v25 main_v112 main_c_47
  let main_c_48 : IVec S_ 32 := constantI S_ 32 2147483647#32
  let main_v114 : IVec S4096 32 := (fun x v => Host.reduce IntOp.minsi x v reducesTo_S4096x4096_S4096_d1 h_S_) main_v113 main_c_48
  let main_v115 : IVec S4096 32 := minsi main_v111 main_v114
  let main_v116 : IVec S1x4096 32 := broadcastInDim S1x4096 ![1] bcast_S4096_S1x4096_1 main_v115
  fn_part7 (F := F) main_v25 main_v115 main_v116

def fn_part5 {F : FTy → Type} [FloatOps F] (main_v25 : IVec S4096x4096 1) (main_v83 : IVec S4096 32) (main_v84 : IVec S1x4096 32) : IVec S4096 1 :=
  let main_c_33 : IVec S_ 32 := constantI S_ 32 4096#32
  let main_v85 : IVec S4096x4096 32 := fn_where_0 (F := F) main_v25 main_v84 main_c_33
  let main_c_34 : IVec S_ 32 := constantI S_ 32 2147483647#32
  let main_v86 : IVec S4096 32 := (fun x v => Host.reduce IntOp.minsi x v reducesTo_S4096x4096_S4096_d1 h_S_) main_v85 main_c_34
  let main_v87 : IVec S4096 32 := minsi main_v83 main_v86
  let main_v88 : IVec S1x4096 32 := broadcastInDim S1x4096 ![1] bcast_S4096_S1x4096_1 main_v87
  let main_c_35 : IVec S_ 32 := constantI S_ 32 4096#32
  let main_v89 : IVec S4096x4096 32 := fn_where_0 (F := F) main_v25 main_v88 main_c_35
  let main_c_36 : IVec S_ 32 := constantI S_ 32 2147483647#32
  let main_v90 : IVec S4096 32 := (fun x v => Host.reduce IntOp.minsi x v reducesTo_S4096x4096_S4096_d1 h_S_) main_v89 main_c_36
  let main_v91 : IVec S4096 32 := minsi main_v87 main_v90
  let main_v92 : IVec S1x4096 32 := broadcastInDim S1x4096 ![1] bcast_S4096_S1x4096_1 main_v91
  let main_c_37 : IVec S_ 32 := constantI S_ 32 4096#32
  let main_v93 : IVec S4096x4096 32 := fn_where_0 (F := F) main_v25 main_v92 main_c_37
  let main_c_38 : IVec S_ 32 := constantI S_ 32 2147483647#32
  let main_v94 : IVec S4096 32 := (fun x v => Host.reduce IntOp.minsi x v reducesTo_S4096x4096_S4096_d1 h_S_) main_v93 main_c_38
  let main_v95 : IVec S4096 32 := minsi main_v91 main_v94
  let main_v96 : IVec S1x4096 32 := broadcastInDim S1x4096 ![1] bcast_S4096_S1x4096_1 main_v95
  let main_c_39 : IVec S_ 32 := constantI S_ 32 4096#32
  let main_v97 : IVec S4096x4096 32 := fn_where_0 (F := F) main_v25 main_v96 main_c_39
  let main_c_40 : IVec S_ 32 := constantI S_ 32 2147483647#32
  let main_v98 : IVec S4096 32 := (fun x v => Host.reduce IntOp.minsi x v reducesTo_S4096x4096_S4096_d1 h_S_) main_v97 main_c_40
  let main_v99 : IVec S4096 32 := minsi main_v95 main_v98
  let main_v100 : IVec S1x4096 32 := broadcastInDim S1x4096 ![1] bcast_S4096_S1x4096_1 main_v99
  fn_part6 (F := F) main_v25 main_v99 main_v100

def fn_part4 {F : FTy → Type} [FloatOps F] (main_v25 : IVec S4096x4096 1) (main_v67 : IVec S4096 32) (main_v68 : IVec S1x4096 32) : IVec S4096 1 :=
  let main_c_25 : IVec S_ 32 := constantI S_ 32 4096#32
  let main_v69 : IVec S4096x4096 32 := fn_where_0 (F := F) main_v25 main_v68 main_c_25
  let main_c_26 : IVec S_ 32 := constantI S_ 32 2147483647#32
  let main_v70 : IVec S4096 32 := (fun x v => Host.reduce IntOp.minsi x v reducesTo_S4096x4096_S4096_d1 h_S_) main_v69 main_c_26
  let main_v71 : IVec S4096 32 := minsi main_v67 main_v70
  let main_v72 : IVec S1x4096 32 := broadcastInDim S1x4096 ![1] bcast_S4096_S1x4096_1 main_v71
  let main_c_27 : IVec S_ 32 := constantI S_ 32 4096#32
  let main_v73 : IVec S4096x4096 32 := fn_where_0 (F := F) main_v25 main_v72 main_c_27
  let main_c_28 : IVec S_ 32 := constantI S_ 32 2147483647#32
  let main_v74 : IVec S4096 32 := (fun x v => Host.reduce IntOp.minsi x v reducesTo_S4096x4096_S4096_d1 h_S_) main_v73 main_c_28
  let main_v75 : IVec S4096 32 := minsi main_v71 main_v74
  let main_v76 : IVec S1x4096 32 := broadcastInDim S1x4096 ![1] bcast_S4096_S1x4096_1 main_v75
  let main_c_29 : IVec S_ 32 := constantI S_ 32 4096#32
  let main_v77 : IVec S4096x4096 32 := fn_where_0 (F := F) main_v25 main_v76 main_c_29
  let main_c_30 : IVec S_ 32 := constantI S_ 32 2147483647#32
  let main_v78 : IVec S4096 32 := (fun x v => Host.reduce IntOp.minsi x v reducesTo_S4096x4096_S4096_d1 h_S_) main_v77 main_c_30
  let main_v79 : IVec S4096 32 := minsi main_v75 main_v78
  let main_v80 : IVec S1x4096 32 := broadcastInDim S1x4096 ![1] bcast_S4096_S1x4096_1 main_v79
  let main_c_31 : IVec S_ 32 := constantI S_ 32 4096#32
  let main_v81 : IVec S4096x4096 32 := fn_where_0 (F := F) main_v25 main_v80 main_c_31
  let main_c_32 : IVec S_ 32 := constantI S_ 32 2147483647#32
  let main_v82 : IVec S4096 32 := (fun x v => Host.reduce IntOp.minsi x v reducesTo_S4096x4096_S4096_d1 h_S_) main_v81 main_c_32
  let main_v83 : IVec S4096 32 := minsi main_v79 main_v82
  let main_v84 : IVec S1x4096 32 := broadcastInDim S1x4096 ![1] bcast_S4096_S1x4096_1 main_v83
  fn_part5 (F := F) main_v25 main_v83 main_v84

def fn_part3 {F : FTy → Type} [FloatOps F] (main_v25 : IVec S4096x4096 1) (main_v51 : IVec S4096 32) (main_v52 : IVec S1x4096 32) : IVec S4096 1 :=
  let main_c_17 : IVec S_ 32 := constantI S_ 32 4096#32
  let main_v53 : IVec S4096x4096 32 := fn_where_0 (F := F) main_v25 main_v52 main_c_17
  let main_c_18 : IVec S_ 32 := constantI S_ 32 2147483647#32
  let main_v54 : IVec S4096 32 := (fun x v => Host.reduce IntOp.minsi x v reducesTo_S4096x4096_S4096_d1 h_S_) main_v53 main_c_18
  let main_v55 : IVec S4096 32 := minsi main_v51 main_v54
  let main_v56 : IVec S1x4096 32 := broadcastInDim S1x4096 ![1] bcast_S4096_S1x4096_1 main_v55
  let main_c_19 : IVec S_ 32 := constantI S_ 32 4096#32
  let main_v57 : IVec S4096x4096 32 := fn_where_0 (F := F) main_v25 main_v56 main_c_19
  let main_c_20 : IVec S_ 32 := constantI S_ 32 2147483647#32
  let main_v58 : IVec S4096 32 := (fun x v => Host.reduce IntOp.minsi x v reducesTo_S4096x4096_S4096_d1 h_S_) main_v57 main_c_20
  let main_v59 : IVec S4096 32 := minsi main_v55 main_v58
  let main_v60 : IVec S1x4096 32 := broadcastInDim S1x4096 ![1] bcast_S4096_S1x4096_1 main_v59
  let main_c_21 : IVec S_ 32 := constantI S_ 32 4096#32
  let main_v61 : IVec S4096x4096 32 := fn_where_0 (F := F) main_v25 main_v60 main_c_21
  let main_c_22 : IVec S_ 32 := constantI S_ 32 2147483647#32
  let main_v62 : IVec S4096 32 := (fun x v => Host.reduce IntOp.minsi x v reducesTo_S4096x4096_S4096_d1 h_S_) main_v61 main_c_22
  let main_v63 : IVec S4096 32 := minsi main_v59 main_v62
  let main_v64 : IVec S1x4096 32 := broadcastInDim S1x4096 ![1] bcast_S4096_S1x4096_1 main_v63
  let main_c_23 : IVec S_ 32 := constantI S_ 32 4096#32
  let main_v65 : IVec S4096x4096 32 := fn_where_0 (F := F) main_v25 main_v64 main_c_23
  let main_c_24 : IVec S_ 32 := constantI S_ 32 2147483647#32
  let main_v66 : IVec S4096 32 := (fun x v => Host.reduce IntOp.minsi x v reducesTo_S4096x4096_S4096_d1 h_S_) main_v65 main_c_24
  let main_v67 : IVec S4096 32 := minsi main_v63 main_v66
  let main_v68 : IVec S1x4096 32 := broadcastInDim S1x4096 ![1] bcast_S4096_S1x4096_1 main_v67
  fn_part4 (F := F) main_v25 main_v67 main_v68

def fn_part2 {F : FTy → Type} [FloatOps F] (main_v25 : IVec S4096x4096 1) (main_v35 : IVec S4096 32) (main_v36 : IVec S1x4096 32) : IVec S4096 1 :=
  let main_c_9 : IVec S_ 32 := constantI S_ 32 4096#32
  let main_v37 : IVec S4096x4096 32 := fn_where_0 (F := F) main_v25 main_v36 main_c_9
  let main_c_10 : IVec S_ 32 := constantI S_ 32 2147483647#32
  let main_v38 : IVec S4096 32 := (fun x v => Host.reduce IntOp.minsi x v reducesTo_S4096x4096_S4096_d1 h_S_) main_v37 main_c_10
  let main_v39 : IVec S4096 32 := minsi main_v35 main_v38
  let main_v40 : IVec S1x4096 32 := broadcastInDim S1x4096 ![1] bcast_S4096_S1x4096_1 main_v39
  let main_c_11 : IVec S_ 32 := constantI S_ 32 4096#32
  let main_v41 : IVec S4096x4096 32 := fn_where_0 (F := F) main_v25 main_v40 main_c_11
  let main_c_12 : IVec S_ 32 := constantI S_ 32 2147483647#32
  let main_v42 : IVec S4096 32 := (fun x v => Host.reduce IntOp.minsi x v reducesTo_S4096x4096_S4096_d1 h_S_) main_v41 main_c_12
  let main_v43 : IVec S4096 32 := minsi main_v39 main_v42
  let main_v44 : IVec S1x4096 32 := broadcastInDim S1x4096 ![1] bcast_S4096_S1x4096_1 main_v43
  let main_c_13 : IVec S_ 32 := constantI S_ 32 4096#32
  let main_v45 : IVec S4096x4096 32 := fn_where_0 (F := F) main_v25 main_v44 main_c_13
  let main_c_14 : IVec S_ 32 := constantI S_ 32 2147483647#32
  let main_v46 : IVec S4096 32 := (fun x v => Host.reduce IntOp.minsi x v reducesTo_S4096x4096_S4096_d1 h_S_) main_v45 main_c_14
  let main_v47 : IVec S4096 32 := minsi main_v43 main_v46
  let main_v48 : IVec S1x4096 32 := broadcastInDim S1x4096 ![1] bcast_S4096_S1x4096_1 main_v47
  let main_c_15 : IVec S_ 32 := constantI S_ 32 4096#32
  let main_v49 : IVec S4096x4096 32 := fn_where_0 (F := F) main_v25 main_v48 main_c_15
  let main_c_16 : IVec S_ 32 := constantI S_ 32 2147483647#32
  let main_v50 : IVec S4096 32 := (fun x v => Host.reduce IntOp.minsi x v reducesTo_S4096x4096_S4096_d1 h_S_) main_v49 main_c_16
  let main_v51 : IVec S4096 32 := minsi main_v47 main_v50
  let main_v52 : IVec S1x4096 32 := broadcastInDim S1x4096 ![1] bcast_S4096_S1x4096_1 main_v51
  fn_part3 (F := F) main_v25 main_v51 main_v52

def fn_part1 {F : FTy → Type} [FloatOps F] (main_v15 : IVec S4096x4096 1) (main_v17 : IVec S4096 32) (main_c_3 : IVec S_ 32) : IVec S4096 1 :=
  let main_v18 : IVec S4096 32 := broadcastInDim S4096 ![] bcast_S_S4096 main_c_3
  let main_v19 : IVec S4096 1 := cmpi .sge main_v17 main_v18
  let main_v20 : IVec S1x4096 1 := broadcastInDim S1x4096 ![1] bcast_S4096_S1x4096_1 main_v19
  let main_v21 : IVec S4096x4096 1 := broadcastInDim S4096x4096 ![0, 1] bcast_S1x4096_S4096x4096_0_1 main_v20
  let main_v22 : IVec S4096x4096 1 := andi main_v15 main_v21
  let main_v23 : IVec S4096x1 1 := broadcastInDim S4096x1 ![0] bcast_S4096_S4096x1_0 main_v19
  let main_v24 : IVec S4096x4096 1 := broadcastInDim S4096x4096 ![0, 1] bcast_S4096x1_S4096x4096_0_1 main_v23
  let main_v25 : IVec S4096x4096 1 := andi main_v22 main_v24
  let main_v26 : IVec S4096 32 := iotaInDim S4096 32 0
  let main_c_4 : IVec S_ 32 := constantI S_ 32 4096#32
  let main_v27 : IVec S4096 32 := fn_where (F := F) main_v19 main_v26 main_c_4
  let main_v28 : IVec S1x4096 32 := broadcastInDim S1x4096 ![1] bcast_S4096_S1x4096_1 main_v27
  let main_c_5 : IVec S_ 32 := constantI S_ 32 4096#32
  let main_v29 : IVec S4096x4096 32 := fn_where_0 (F := F) main_v25 main_v28 main_c_5
  let main_c_6 : IVec S_ 32 := constantI S_ 32 2147483647#32
  let main_v30 : IVec S4096 32 := (fun x v => Host.reduce IntOp.minsi x v reducesTo_S4096x4096_S4096_d1 h_S_) main_v29 main_c_6
  let main_v31 : IVec S4096 32 := minsi main_v27 main_v30
  let main_v32 : IVec S1x4096 32 := broadcastInDim S1x4096 ![1] bcast_S4096_S1x4096_1 main_v31
  let main_c_7 : IVec S_ 32 := constantI S_ 32 4096#32
  let main_v33 : IVec S4096x4096 32 := fn_where_0 (F := F) main_v25 main_v32 main_c_7
  let main_c_8 : IVec S_ 32 := constantI S_ 32 2147483647#32
  let main_v34 : IVec S4096 32 := (fun x v => Host.reduce IntOp.minsi x v reducesTo_S4096x4096_S4096_d1 h_S_) main_v33 main_c_8
  let main_v35 : IVec S4096 32 := minsi main_v31 main_v34
  let main_v36 : IVec S1x4096 32 := broadcastInDim S1x4096 ![1] bcast_S4096_S1x4096_1 main_v35
  fn_part2 (F := F) main_v25 main_v35 main_v36

def fn {F : FTy → Type} [FloatOps F] (main_arg0 : FVec F S4096x8 .f32) : IVec S4096 1 :=
  let main_v0 : FVec F S4096x8 .f32 := mulf main_arg0 main_arg0
  let main_cst : FVec F S_ .f32 := constant S_ .f32 0x00000000#32
  let main_v1 : FVec F S4096 .f32 := (fun x v => Host.reduceAdd x v reducesTo_S4096x8_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S8x4096 .f32 := (transpose S8x4096 [1, 0] · transposes_S4096x8_S8x4096_1_0) main_arg0
  let main_v8 : FVec F S4096x4096 .f32 := (fun l r => Host.dotGeneral dot_S4096x8_S8x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x00000000#32
  let main_v12 : FVec F S4096x4096 .f32 := broadcastInDim S4096x4096 ![] bcast_S_S4096x4096 main_cst_1
  let main_v13 : FVec F S4096x4096 .f32 := maximumf main_v11 main_v12
  let main_cst_2 : FVec F S_ .f32 := constant S_ .f32 0x4023D70A#32
  let main_v14 : FVec F S4096x4096 .f32 := broadcastInDim S4096x4096 ![] bcast_S_S4096x4096 main_cst_2
  let main_v15 : IVec S4096x4096 1 := cmpf .ole main_v13 main_v14
  let main_v16 : IVec S4096x4096 32 := (extui 32 · natLt_1_32) main_v15
  let main_c : IVec S_ 32 := constantI S_ 32 0#32
  let main_v17 : IVec S4096 32 := (fun x v => Host.reduce IntOp.addi x v reducesTo_S4096x4096_S4096_d1 h_S_) main_v16 main_c
  let main_c_3 : IVec S_ 32 := constantI S_ 32 5#32
  fn_part1 (F := F) main_v15 main_v17 main_c_3
-- ==== Kernel.lean ====
abbrev S4096x8 : Shape := ⟨2, ![4096, 8]⟩
abbrev S1x4096 : Shape := ⟨2, ![1, 4096]⟩
abbrev S4096x4096 : Shape := ⟨2, ![4096, 4096]⟩
abbrev S8x4096 : Shape := ⟨2, ![8, 4096]⟩
abbrev S4096 : Shape := ⟨1, ![4096]⟩
abbrev S512x8 : Shape := ⟨2, ![512, 8]⟩
abbrev S512x4096 : Shape := ⟨2, ![512, 4096]⟩
abbrev S1x512 : Shape := ⟨2, ![1, 512]⟩
abbrev S512x1 : Shape := ⟨2, ![512, 1]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S1x1x4096 : Shape := ⟨3, ![1, 1, 4096]⟩
abbrev S1x1 : Shape := ⟨2, ![1, 1]⟩
abbrev S1x4097 : Shape := ⟨2, ![1, 4097]⟩
abbrev S1x2 : Shape := ⟨2, ![1, 2]⟩
abbrev S1x4098 : Shape := ⟨2, ![1, 4098]⟩
abbrev S1x4 : Shape := ⟨2, ![1, 4]⟩
abbrev S1x4100 : Shape := ⟨2, ![1, 4100]⟩
abbrev S1x8 : Shape := ⟨2, ![1, 8]⟩
abbrev S1x4104 : Shape := ⟨2, ![1, 4104]⟩
abbrev S1x16 : Shape := ⟨2, ![1, 16]⟩
abbrev S1x4112 : Shape := ⟨2, ![1, 4112]⟩
abbrev S1x32 : Shape := ⟨2, ![1, 32]⟩
abbrev S1x4128 : Shape := ⟨2, ![1, 4128]⟩
abbrev S1x64 : Shape := ⟨2, ![1, 64]⟩
abbrev S1x4160 : Shape := ⟨2, ![1, 4160]⟩
abbrev S1x128 : Shape := ⟨2, ![1, 128]⟩
abbrev S1x4224 : Shape := ⟨2, ![1, 4224]⟩
abbrev S1x256 : Shape := ⟨2, ![1, 256]⟩
abbrev S1x4352 : Shape := ⟨2, ![1, 4352]⟩
abbrev S1x4608 : Shape := ⟨2, ![1, 4608]⟩
abbrev S1x1024 : Shape := ⟨2, ![1, 1024]⟩
abbrev S1x5120 : Shape := ⟨2, ![1, 5120]⟩
abbrev S1x2048 : Shape := ⟨2, ![1, 2048]⟩
abbrev S1x6144 : Shape := ⟨2, ![1, 6144]⟩

abbrev nBuf : Space → Nat
  | .hbm => 3
  | .vmem => 9
  | .smem => 0
  | _ => 0

abbrev bufTy : (tb : Table) → Fin (tcTables nBuf tb) → BufTy
  | .hbm, ⟨0, _⟩ => ⟨S4096x8, .f32⟩
  | .hbm, ⟨1, _⟩ => ⟨S1x4096, .i32⟩
  | .hbm, ⟨2, _⟩ => ⟨S4096, .i32⟩
  | .local _ .vmem, ⟨0, _⟩ => ⟨S4096x8, .f32⟩
  | .local _ .vmem, ⟨1, _⟩ => ⟨S1x4096, .i32⟩
  | .local _ .vmem, ⟨2, _⟩ => ⟨S4096x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S8x4096, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v107 : BitVec 32 := Scalar.muli arg9 c512_i32
  let v108 : Index := Scalar.indexCast v107
  let c0_44 : Index := 0#32
  ![v108.toNat, 0]
def k0_off2 (k0_t1 : Fin k0_t1_loop.trips) : Fin 2 → Nat :=
  let c0_47 : Index := 0#32
  let c0_i32 : BitVec 32 := 0#32
  let c1_i32 : BitVec 32 := 1#32
  let arg9 : BitVec 32 := Scf.iv c0_i32 c1_i32 k0_t1
  let c512_i32_46 : BitVec 32 := 512#32
  let v111 : BitVec 32 := Scalar.muli arg9 c512_i32_46
  let v112 : Index := Scalar.indexCast v111
  ![0, v112.toNat]
def k0_off3 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32_52 : BitVec 32 := 512#32
  let v127 : BitVec 32 := Scalar.muli arg9 c512_i32_52
  let v128 : Index := Scalar.indexCast v127
  let c0_53 : Index := 0#32
  ![v128.toNat, 0]
@[reducible] def k0_t2_loop : Scf.Loop 32 :=
  let c0_i32_49 : BitVec 32 := 0#32
  let c8_i32_50 : BitVec 32 := 8#32
  let v114 : BitVec 32 := Scalar.addi c0_i32_49 c8_i32_50
  let c1_i32_51 : BitVec 32 := 1#32
  ⟨c0_i32_49, v114, c1_i32_51⟩
def k0_off4 (k0_t2 : Fin k0_t2_loop.trips) : Fin 2 → Nat :=
  let c0_72 : Index := 0#32
  let c0_i32_49 : BitVec 32 := 0#32
  let c1_i32_51 : BitVec 32 := 1#32
  let arg12 : BitVec 32 := Scf.iv c0_i32_49 c1_i32_51 k0_t2
  let c512_i32 : BitVec 32 := 512#32
  let v153 : BitVec 32 := Scalar.muli arg12 c512_i32
  let v154 : Index := Scalar.indexCast v153
  ![0, v154.toNat]
def k0_off5 (k0_t2 : Fin k0_t2_loop.trips) : Fin 2 → Nat :=
  let c0_i32_49 : BitVec 32 := 0#32
  let c1_i32_51 : BitVec 32 := 1#32
  let arg12 : BitVec 32 := Scf.iv c0_i32_49 c1_i32_51 k0_t2
  let c512_i32_81 : BitVec 32 := 512#32
  let v170 : BitVec 32 := Scalar.muli arg12 c512_i32_81
  let v171 : Index := Scalar.indexCast v170
  let c0_82 : Index := 0#32
  ![v171.toNat, 0]
def k0_off6 (k0_t2 : Fin k0_t2_loop.trips) : Fin 2 → Nat :=
  let c0_i32_49 : BitVec 32 := 0#32
  let c1_i32_51 : BitVec 32 := 1#32
  let arg12 : BitVec 32 := Scf.iv c0_i32_49 c1_i32_51 k0_t2
  let v178 : Index := Scalar.indexCast arg12
  let c0_84 : Index := 0#32
  ![v178.toNat, 0]
@[reducible] def k0_t3_loop : Scf.Loop 32 :=
  let c0_i32_77 : BitVec 32 := 0#32
  let c8_i32_78 : BitVec 32 := 8#32
  let v155 : BitVec 32 := Scalar.addi c0_i32_77 c8_i32_78
  let c1_i32_79 : BitVec 32 := 1#32
  ⟨c0_i32_77, v155, c1_i32_79⟩
def k0_off7 (k0_t3 : Fin k0_t3_loop.trips) : Fin 2 → Nat :=
  let c0_83 : Index := 0#32
  let c0_i32_77 : BitVec 32 := 0#32
  let c1_i32_79 : BitVec 32 := 1#32
  let arg12 : BitVec 32 := Scf.iv c0_i32_77 c1_i32_79 k0_t3
  let c512_i32 : BitVec 32 := 512#32
  let v159 : BitVec 32 := Scalar.muli arg12 c512_i32
  let v160 : Index := Scalar.indexCast v159
  ![0, v160.toNat]
@[reducible] def k0_t4_loop : Scf.Loop 32 :=
  let c0_i32_33 : BitVec 32 := 0#32
  let c8_i32_34 : BitVec 32 := 8#32
  let v98 : BitVec 32 := Scalar.addi c0_i32_33 c8_i32_34
  let c1_i32_35 : BitVec 32 := 1#32
  ⟨c0_i32_33, v98, c1_i32_35⟩
def k0_off8 (k0_t4 : Fin k0_t4_loop.trips) : Fin 2 → Nat :=
  let c0_44 : Index := 0#32
  let c0_i32_33 : BitVec 32 := 0#32
  let c1_i32_35 : BitVec 32 := 1#32
  let arg9 : BitVec 32 := Scf.iv c0_i32_33 c1_i32_35 k0_t4
  let c512_i32 : BitVec 32 := 512#32
  let v107 : BitVec 32 := Scalar.muli arg9 c512_i32
  let v108 : Index := Scalar.indexCast v107
  ![0, v108.toNat]
abbrev stage0_0 : Fin 1 → Memref sig .tc .vmem S4096x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x8 : Shape := ⟨2, ![4096, 8]⟩
abbrev S1 : Shape := ⟨1, ![1]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4096 : Shape := ⟨2, ![8, 4096]⟩
abbrev S4097 : Shape := ⟨1, ![4097]⟩

abbrev nBuf : Space → Nat
  | .hbm => 97
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S1, .i32⟩
  | .hbm, ⟨2, _⟩ => ⟨S4096x8, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S4096x4096, .i32⟩
  | .hbm, ⟨23, _⟩ => ⟨S_, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S1x4096, .i1⟩
  | .hbm, ⟨33, _⟩ => ⟨S4096x4096, .i1⟩
  | .hbm, ⟨34, _⟩ => ⟨S4096x4096, .i1⟩
  | .hbm, ⟨35, _⟩ => ⟨S4096x1, .i1⟩
  | .hbm, ⟨36, _⟩ => ⟨S4096x4096, .i1⟩
  | .hbm, ⟨37, _⟩ => ⟨S4096x4096, .i1⟩
  | .hbm, ⟨38, _⟩ => ⟨S_, .i32⟩
  | .hbm, ⟨39, _⟩ => ⟨S_, .i32⟩
  | .hbm, ⟨40, _⟩ => ⟨S4096x4096, .i1⟩
  | .hbm, ⟨41, _⟩ => ⟨S_, .i32⟩
  | .hbm, ⟨42, _⟩ => ⟨S_, .i32⟩
  | .hbm, ⟨43, _⟩ => ⟨S4096, .i32⟩
  | .hbm, ⟨44, _⟩ => ⟨S_, .i32⟩
  | .hbm, ⟨45, _⟩ => ⟨S_, .i1⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S1, .i32⟩
  | .hbm, ⟨54, _⟩ => ⟨S4097, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S_, .i32⟩
  | .hbm, ⟨67, _⟩ => ⟨S1x4096, .i1⟩
  | .hbm, ⟨68, _⟩ => ⟨S4096x4096, .i1⟩
  | .hbm, ⟨69, _⟩ => ⟨S4096x4096, .i1⟩
  | .hbm, ⟨70, _⟩ => ⟨S1x4096, .i32⟩
  | .hbm, ⟨71, _⟩ => ⟨S_, .i32⟩
  | .hbm, ⟨72, _⟩ => ⟨S4096x4096, .i32⟩
  | .hbm, ⟨73, _⟩ => ⟨S4096x4096, .i32⟩
  | .hbm, ⟨74, _⟩ => ⟨S4096x4096, .i32⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i1⟩
  | .hbm, ⟨79, _⟩ => ⟨S4096, .i1⟩
  | .hbm, ⟨80, _⟩ => ⟨S4096, .i32⟩
  | .hbm, ⟨81, _⟩ => ⟨S_, .i32⟩
  | .hbm, ⟨82, _⟩ => ⟨S_, .i32⟩
  | .hbm, ⟨83, _⟩ => ⟨S4096, .i32⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4097, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096, .i32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_c_7 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v28_3 : Ref sig .tc := ⟨.hbm, 43, rfl⟩
abbrev main_while0c_c_16 : Ref sig .tc := ⟨.hbm, 44, rfl⟩
abbrev main_while0c_v50 : Ref sig .tc := ⟨.hbm, 45, rfl⟩
abbrev main_while0b_v50 : Ref sig .tc := ⟨.hbm, 46, rfl⟩
abbrev main_while0b_call1_v0 : Ref sig .tc := ⟨.hbm, 47, rfl⟩
abbrev main_while0b_call1_v1 : Ref sig .tc := ⟨.hbm, 48, rfl⟩
abbrev main_while0b_v51 : Ref sig .tc := ⟨.hbm, 49, rfl⟩
abbrev main_while0b_c_16 : Ref sig .tc := ⟨.hbm, 50, rfl⟩
abbrev main_while0b_v52 : Ref sig .tc := ⟨.hbm, 51, rfl⟩
abbrev main_while0b_v53 : Ref sig .tc := ⟨.hbm, 52, rfl⟩
abbrev main_while0b_v54 : Ref sig .tc := ⟨.hbm, 53, rfl⟩
abbrev main_while0b_v55 : Ref sig .tc := ⟨.hbm, 54, rfl⟩
abbrev main_while0b_c_17 : Ref sig .tc := ⟨.hbm, 55, rfl⟩
abbrev main_while0b_v56 : Ref sig .tc := ⟨.hbm, 56, rfl⟩
abbrev main_while0b_v57 : Ref sig .tc := ⟨.hbm, 57, rfl⟩
abbrev main_while0b_c_18 : Ref sig .tc := ⟨.hbm, 58, rfl⟩
abbrev main_while0b_v58 : Ref sig .tc := ⟨.hbm, 59, rfl⟩
abbrev main_while0b_v59 : Ref sig .tc := ⟨.hbm, 60, rfl⟩
abbrev main_while0b_v60 : Ref sig .tc := ⟨.hbm, 61, rfl⟩
abbrev main_while0b_v61 : Ref sig .tc := ⟨.hbm, 62, rfl⟩
abbrev main_while0b_v62 : Ref sig .tc := ⟨.hbm, 63, rfl⟩
abbrev main_while0b_v63 : Ref sig .tc := ⟨.hbm, 64, rfl⟩
abbrev main_while0b_c_19 : Ref sig .tc := ⟨.hbm, 65, rfl⟩
abbrev main_while0b_v64 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_8 : Ref sig .tc := ⟨.hbm, 71, rfl⟩
abbrev main_call2_v0 : Ref sig .tc := ⟨.hbm, 72, rfl⟩
abbrev main_call2_v1 : Ref sig .tc := ⟨.hbm, 73, rfl⟩
abbrev main_v33 : Ref sig .tc := ⟨.hbm, 74, rfl⟩
abbrev main_c_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_call4_call0_c : Ref sig .tc := ⟨.hbm, 81, rfl⟩
abbrev main_call4_call0_v0 : Ref sig .tc := ⟨.hbm, 82, rfl⟩
abbrev main_v39 : Ref sig .tc := ⟨.hbm, 83, rfl⟩
abbrev main_c_10 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_11 : Ref sig .tc := ⟨.hbm, 88, rfl⟩
abbrev main_v43 : Ref sig .tc := ⟨.hbm, 89, rfl⟩
abbrev main_v44 : Ref sig .tc := ⟨.hbm, 90, rfl⟩
abbrev main_c_12 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩

abbrev nD : Nat := 1
abbrev τ : Topo := Topo.v7x

variable {F : FTy → Type} [FloatOps F]

abbrev main_while0_count : Scf.Loop 32 := ⟨0#32, 32#32, 1#32⟩
-- ==== Proof.KB.Run.lean ====
/-
  The launch: the kernel's body as the pipeline calls it (`sound`), the host line after the region, and the run of the
  whole program, the result array left open (`run_frame`).
-/
module

public import proofs.«01_k».proof.Proof.KB.Body
public import proofs.«01_k».proof.Proof.Gen.Kernel.Launch
public import proofs.«01_k».proof.Proof.Gen.Kernel.Points
public import Idealize.ShloMosaic.Lib.Pipeline.FrameSuffix
public import Idealize.ShloMosaic.Lib.StableHlo.RunRead
public import Idealize.ShloMosaic.Lib.Pipeline.ValueKit

@[expose] public section

noncomputable section

namespace Cert.Proof.KB

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host line after the region -/

/-- The buffers when the region is entered: as launched. -/
abbrev V0 (c : Dev nD) : Valuation τ sig (Elt F) := StableHlo.after (List.flatten []) (fun b => m (c, b))

/-- The program around the region. -/
theorem hmain (𝒱 : Variants) : Pipeline.HMainK (Ix := Unit) (Name := ℕ) (U := UR sig nD τ) (Lvl := ℕ) cfgs (0 : Fin 1) defs₀ 𝒱 m (main (F := F))
    (fun c b => V0 m c (Proc.devRef .tc b)) (fun _ => Pipeline.chain ([hostOps1].map StableHlo.seq)) :=
  Pipeline.hmain_around cfgs (0 : Fin 1) defs₀ 𝒱 m main [] [hostOps1] (by simp only [List.Forall]) (by simp only [List.Forall]) main_chain

/-- The line touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  subst hops
  exact Pipeline.sub_ucRefs op ((List.forall_iff_forall_mem.mp hostOps1_sub) op hop)

/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  subst hop
  rfl

/-- writes no array of the region, -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-- and writes the reshaped result only. -/
theorem sfx_writes : ∀ ops ∈ ([hostOps1] : List (List (HloOp τ sig (Elt F)))), ∀ op ∈ ops,
    ∀ b : Ref sig .tc, Proc.devRef .tc b ∈ op.writes → b ∈ ({main_v1} : Finset (Ref sig .tc)) := by
  intro ops hops op hop
  simp only [List.mem_cons, List.mem_nil_iff, or_false] at hops
  subst hops
  simp only [hostOps1, List.mem_cons, List.mem_nil_iff, or_false] at hop
  subst hop
  intro b hb
  simp only [StableHlo.reshape_writes, Finset.mem_singleton] at hb
  exact Finset.mem_singleton.mpr (Proc.devRef_injective _ hb)

/-! ### The body as the pipeline calls it -/

/-- The points as fetched into their staging buffer. -/
def xin (c : Dev nD) : Vec F S4096x8 .f32 :=
  (win0_0.blk (t0_0)).view.read (Elt F) (m ((c : Thread nD τ).loc main_arg0))

/-- The proof data: the arrays as launched, the points as fetched, the result at `out`. -/
def dats (out : Dev nD → Vec F S1x4096 .i32) (_ : Fin 1) (c : Dev nD) : Dat τ (Elt F) Unit ℕ (UR sig nD τ) ℕ (cfg0 (F := F)) c where
  A w := V0 m c (Proc.devRef .tc (Pipeline.arrRef spec0 w))
  after w _ := match w with
    | ⟨0, _⟩ => xin m c
    | ⟨1, _⟩ => out c
  Φ _ := Pipeline.ΦA spec0 c
  q _ := fullShare
  owed _ := 0

/-- A whole buffer owned through its memref is owned with some contents that read so. -/
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- The body, from the scratch buffers at anything. -/
theorem sound (c : Dev nD) (x : Vec F S4096x8 .f32) (K : PUnit → sProp 𝕄) :
    iprop(iprop(Pipeline.ΦA spec0 c ∗ pt c cc0_stg0_0 x ∗ (∃ f, pt (F := F) c cc0_stg1_0 f))
        ∗ (iprop(Pipeline.ΦA spec0 c ∗ pt c cc0_stg0_0 x ∗ (∃ p, pt (F := F) c cc0_stg1_0 (kOut x p))) -∗ K ⟨⟩))
      ⊢ wp frame (wpE (defs₀ (F := F)) 𝒱₀ (c : Thread nD τ) none) Set.univ
        (cc0__dbscan_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _)) K := by
  unfold Pipeline.ΦA
  rw [scopedRest0_eq]
  iintro ⟨⟨⟨⟨H0, H1, H2, H3, H4, H5, ⟨%p, H6⟩⟩, Hr⟩, Hx, Ho⟩, Hk⟩
  iapply (body_wp c Set.univ x p K)
  isplitr [Hk Hr]
  · isplitl [Hx]; · iexact Hx
    isplitl [Ho]; · iexact Ho
    isplitl [H0]; · iexact H0
    isplitl [H1]; · iexact H1
    isplitl [H3]; · iexact H3
    isplitr [H6]
    · unfold junk3
      isplitl [H2]; · iexact H2
      isplitl [H4]; · iexact H4
      iexact H5
    iexact H6
  unfold junk3
  iintro ⟨Hx, Ho, H0, H1, H3, ⟨H2, H4, H5⟩, H6⟩
  iapply Hk
  isplitl [Hr H0 H1 H2 H3 H4 H5 H6]
  · isplitr [Hr]
    · isplitl [H0]; · iexact H0
      isplitl [H1]; · iexact H1
      isplitl [H2]; · iexact H2
      isplitl [H3]; · iexact H3
      isplitl [H4]; · iexact H4
      isplitl [H5]; · iexact H5
      iexact H6
    iexact Hr
  isplitl [Hx]; · iexact Hx
  iexists p; iexact Ho

/-- The points' window holds the points as fetched. -/
theorem before_in (out : Dev nD → Vec F S1x4096 .i32) (c : Dev nD) (d) : (dats m out 0 c).before (0 : Fin 2) t0_0 d = xin m c := by
  unfold Dat.before
  exact (if_pos (fetch0_0 (F := F) t0_0)).trans rfl

/-- Which windows are left open: the result's. -/
def fgt : Fin 2 → Bool := fun | 0 => false | 1 => true

/-- The body's obligation with the result left open. -/
theorem body_open (out : Dev nD → Vec F S1x4096 .i32) (c : Dev nD) :
    BodyObligation (dats m out 0 c) (defs₀ (F := F)) 𝒱₀ () Set.univ fgt := fun t => by
  rw [fin_N0 t]
  rw [bigSep_W0, bigSep_W0]
  sl_whnfR [defs₀, Defs.onTc]
  simp only [owns_whole_eq, fgt]
  simp only [show stage0_0 0 = Memref.whole cc0_stg0_0 from rfl, show stage0_1 0 = Memref.whole cc0_stg1_0 from rfl]
  rw [show (dats m out 0 c).Φ t0_0.castSucc = Pipeline.ΦA spec0 c from rfl,
    show (dats m out 0 c).Φ t0_0.succ = Pipeline.ΦA spec0 c from rfl]
  iintro ⟨HΦ, Howes, ⟨%d, %f, %hf, Hx⟩, ⟨%X, %fo, -, Ho⟩⟩
  have hx : f = xin m c := hf.trans (before_in m out c d)
  subst hx
  iapply (sound c (xin m c) _)
  isplitl [HΦ Hx Ho]
  · isplitl [HΦ]; · iexact HΦ
    isplitl [Hx]; · iexact Hx
    iexists fo; iexact Ho
  iintro ⟨HΦ, Hx, ⟨%p, Ho⟩⟩
  isplitl [HΦ]; · iexact HΦ
  isplitl [Howes]; · iexact Howes
  isplitl [Hx]
  · iexists (xin m c); isplitr; · ipureintro; rfl
    iexact Hx
  iexists (kOut (xin m c) p); iexists (kOut (xin m c) p); isplitr; · ipureintro; rfl
  iexact Ho

/-! ### The run -/

/-- The arrays at the region's entry are as launched. -/
theorem V0_eq (c : Dev nD) (b : Ref sig .tc) : V0 m c (Proc.devRef .tc b) = m ((c : Thread nD τ).loc b) := rfl

/-- The program ends with its argument unchanged and its semaphores at rest. -/
theorem run_frame :
    θ_run (Cert.Kernel.defs (F := F)) (onTc (τ := τ) (main (F := F))) ⟨m, fun _ => 0, ρ⟩
      (fun r => (∀ c : Dev nD, r.2.mem ((c.tc : Thread nD τ).loc main_arg0) = m ((c.tc : Thread nD τ).loc main_arg0))
        ∧ r.2.sem = fun _ => 0) :=
  Pipeline.θ_run_frame_around_T_forget cfgs (dats m (fun _ => fun _ => default)) (0 : Fin 1) launch0 defs₀ 𝒱₀ fgt {main_v1} m ρ main
    (hbody := fun c => (body_open m _ c).loose) (hshare := fun c => (dats m _ 0 c).share_full fun _ => rfl)
    (howed := fun _ _ => rfl) (V₀ := V0 m) (opss := [hostOps1]) (hsub := sfx_sub) (hfresh := sfx_fresh) (hkeep := sfx_keeps)
    (hT := sfx_writes) (hmain := hmain m 𝒱₀) (hA := fun _ _ => rfl) (hΦ := fun _ _ => rfl)
    (Q' := _) (hQ' := fun r h => ⟨fun c => Pipeline.RDat.FramePostR.arr_in h.1 c (0 : Fin 2) rfl, h.2⟩)

end Cert.Proof.KB

end
-- ==== Proof.KI.Pure.lean ====
/-
  What the kernel leaves in its buffers, as plain functions of vectors: the four block loops put together, one round of
  the label loop (`WS.next`), the label loop with a bound on its rounds (`WS.run`), and the finished result (`kOut`).
  No buffer, view or resource appears here.
-/
module

public import proofs.«01_k».proof.KernelIdeal
public import proofs.«01_k».proof.Proof.Gen.KernelIdeal
public import proofs.«01_k».proof.Proof.Gen.KernelIdeal.Skeleton
public import Idealize.ShloMosaic.Lib.VecWindow
public import Idealize.ShloMosaic.Lib.Pointwise

@[expose] public section

noncomputable section

namespace Cert.Proof.KI

open Cert.KernelIdeal Cert.KernelIdeal.Gen
open Idealize.ShloMosaic

variable {F : FTy → Type} [FloatOps F] {α : Type}

/-! ### Blocks of 512 -/

/-- The block a position lies in. -/
def blk (i : Fin 4096) : Fin 8 := ⟨i.val / 512, by omega⟩
/-- The position inside its block. -/
def loc (i : Fin 4096) : Fin 512 := ⟨i.val % 512, by omega⟩
/-- The position of place `j` of block `b`. -/
def glue (b : Fin 8) (j : Fin 512) : Fin 4096 := ⟨512 * b.val + j.val, by omega⟩

/-- A position put together from its block and its place is itself. -/
@[simp] theorem glue_blk_loc (i : Fin 4096) : glue (blk i) (loc i) = i := Fin.ext (by simp only [glue, blk, loc]; omega)
/-- The block of place `j` of block `b` is `b`, -/
@[simp] theorem blk_glue (b : Fin 8) (j : Fin 512) : blk (glue b j) = b := Fin.ext (by simp only [glue, blk]; omega)
/-- and its place is `j`. -/
@[simp] theorem loc_glue (b : Fin 8) (j : Fin 512) : loc (glue b j) = j := Fin.ext (by simp only [glue, loc]; omega)

/-- Block `b` of a row vector. -/
def colBlk (v : S1x4096.Idx → α) (b : Fin 8) : S1x512.Idx → α := fun y => v (ix2 (0 : Fin 1) (glue b (y 1)))
/-- Rows of block `b` of the points. -/
def rowBlk (x : S4096x8.Idx → α) (b : Fin 8) : S512x8.Idx → α := fun y => x (ix2 (glue b (y 0)) (y 1))
/-- Rows of block `b` of a square matrix. -/
def matBlk (x : S4096x4096.Idx → α) (b : Fin 8) : S512x4096.Idx → α := fun y => x (ix2 (glue b (y 0)) (y 1))

/-! ### The block loops put together -/

/-- The squared lengths, as a row. -/
def sqRow (x : Vec F S4096x8 .f32) : Vec F S1x4096 .f32 := k0_pay8 x

/-- The whole adjacency matrix. -/
def adjM (x : Vec F S4096x8 .f32) : Vec F S4096x4096 .bf16 := fun i =>
  k0_pay10 x (rowBlk x (blk (i 0))) (colBlk (sqRow x) (blk (i 0))) (ix2 (loc (i 0)) (i 1))

/-- All neighbour counts, as a row. -/
def degV (x : Vec F S4096x8 .f32) : Vec F S1x4096 .f32 := fun i =>
  k0_pay11 x (rowBlk x (blk (i 1))) (colBlk (sqRow x) (blk (i 1))) (ix2 (0 : Fin 1) (loc (i 1)))

/-- Does the block of labels `a` differ from the block `b`, as the kernel asks it. -/
def changed (a b : Vec F S1x512 .f32) : Prop :=
  Scalar.cmpi .ne (Scalar.extui (Scalar.cmpf .ogt (k0_pay21 a b) (Scalar.ofBits .f32 0x00000000#32 : F .f32)) : BitVec 32) 0#32 = 1#1

open Classical in
/-- The partial minima after one pass: the row of a block whose labels changed is computed anew. -/
def partStep (M : Vec F S4096x4096 .bf16) (labm prev : Vec F S1x4096 .f32) (part : Vec F S8x4096 .f32) : Vec F S8x4096 .f32 := fun i =>
  if changed (colBlk labm (i 0)) (colBlk prev (i 0)) then k0_pay22 (colBlk labm (i 0)) (matBlk M (i 0)) (ix2 (0 : Fin 1) (i 1)) else part i

/-- The jump: for each position the label of its label. -/
def jumpV (h : Vec F S1x4096 .f32) : Vec F S1x4096 .f32 := fun i =>
  k0_pay4 (k0_pay7 (F := F)) h (colBlk h (blk (i 1))) (ix2 (0 : Fin 1) (loc (i 1)))

/-- The cluster numbers looked up at the roots. -/
def lookV (root cid : Vec F S1x4096 .f32) : Vec F S1x4096 .i32 := fun i =>
  k0_pay2 (k0_pay7 (F := F)) (colBlk root (blk (i 1))) cid (ix2 (0 : Fin 1) (loc (i 1)))

/-! ### The label loop -/

/-- What one round of the label loop works on: the labels, the labels of the last pass, the partial minima, the round's
    number and whether the last round changed nothing. -/
structure WS (F : FTy → Type) where
  lab : Vec F S1x4096 .f32
  prev : Vec F S1x4096 .f32
  part : Vec F S8x4096 .f32
  it : BitVec 32
  dn : BitVec 1

/-- The loop's test. -/
def WS.test (s : WS F) : Prop := Scalar.andi (Scalar.cmpi .slt s.it 96#32) (Scalar.xori s.dn 1#1) = 1#1

/-- Is round number `it` one that jumps, as the kernel asks it. -/
def jumps (it : BitVec 32) : Prop :=
  Scalar.cmpi .ne (Scalar.extui (Scalar.cmpi .eq
    (Scalar.select (Scalar.andi (Scalar.xori (Scalar.cmpi .slt (Scalar.remsi it (Scalar.select (Scalar.cmpi .eq 4#32 0#32) 1#32 4#32)) 0#32)
        (Scalar.cmpi .slt (Scalar.select (Scalar.cmpi .eq 4#32 0#32) 1#32 4#32) 0#32))
      (Scalar.cmpi .ne (Scalar.remsi it (Scalar.select (Scalar.cmpi .eq 4#32 0#32) 1#32 4#32)) 0#32))
      (Scalar.addi (Scalar.remsi it (Scalar.select (Scalar.cmpi .eq 4#32 0#32) 1#32 4#32)) (Scalar.select (Scalar.cmpi .eq 4#32 0#32) 1#32 4#32))
      (Scalar.remsi it (Scalar.select (Scalar.cmpi .eq 4#32 0#32) 1#32 4#32))) 3#32) : BitVec 32) 0#32 = 1#1

/-- The partial minima of a round, -/
def WS.part' (core : IVec S1x4096 1) (M : Vec F S4096x4096 .bf16) (s : WS F) : Vec F S8x4096 .f32 :=
  partStep M (k0_pay20 core s.lab) s.prev s.part

/-- its labels after the hook, -/
def WS.hook (core : IVec S1x4096 1) (M : Vec F S4096x4096 .bf16) (s : WS F) : Vec F S1x4096 .f32 :=
  k0_pay25 core s.lab (s.part' core M)

open Classical in
/-- and all it hands to the next. -/
def WS.next (core : IVec S1x4096 1) (M : Vec F S4096x4096 .bf16) (s : WS F) : WS F where
  lab := if jumps s.it then k0_pay5 (s.hook core M) (jumpV (s.hook core M)) else k0_pay24 core s.lab (s.part' core M)
  prev := k0_pay23 core s.lab
  part := s.part' core M
  it := Scalar.addi s.it 1#32
  dn := Scalar.cmpf .ogt (k0_pay26 core s.lab (s.part' core M)) (Scalar.ofBits .f32 0x00000000#32 : F .f32)

open Classical in
/-- At most `k` rounds. -/
def WS.run (core : IVec S1x4096 1) (M : Vec F S4096x4096 .bf16) : ℕ → WS F → WS F
  | 0, s => s
  | k + 1, s => if s.test then WS.run core M k (s.next core M) else s

/-- Where the loop starts, from the partial minima's buffer as it was found. -/
def ws0 (x : Vec F S4096x8 .f32) (p : Vec F S8x4096 .f32) : WS F where
  lab := k0_pay13 (degV x)
  prev := k0_pay14
  part := p
  it := 0#32
  dn := 0#1

/-- Where the loop ends. -/
def wsEnd (x : Vec F S4096x8 .f32) (p : Vec F S8x4096 .f32) : WS F :=
  WS.run (k0_pay12 (degV x)) (adjM x) 96 (ws0 x p)

/-- The roots. -/
def rootV (x : Vec F S4096x8 .f32) (p : Vec F S8x4096 .f32) : Vec F S1x4096 .f32 :=
  k0_pay15 (degV x) (wsEnd x p).lab (wsEnd x p).part

/-- The cluster numbers. -/
def cidV (x : Vec F S4096x8 .f32) (p : Vec F S8x4096 .f32) : Vec F S1x4096 .f32 :=
  k0_pay1 (k0_pay17 (k0_pay16 (degV x) (wsEnd x p).lab)) (k0_pay18 (k0_pay16 (degV x) (wsEnd x p).lab))

/-- The kernel's result. -/
def kOut (x : Vec F S4096x8 .f32) (p : Vec F S8x4096 .f32) : Vec F S1x4096 .i32 :=
  k0_pay3 (rootV x p) (lookV (rootV x p) (cidV x p))

/-! ### Block writes -/

/-- After a block is written over a prefix that agrees with `G`, the longer prefix agrees with `G`. -/
theorem put_prefix {s : Shape} (a : Fin s.rank) (n k : ℕ) (f G : s.Idx → α) (off size : Fin s.rank → ℕ)
    (w : ((a : Fin s.rank) → Fin (size a)) → α)
    (hoff : off a = n * k) (hsize : size a = n) (ho : ∀ b, b ≠ a → off b = 0 ∧ size b = s.size b)
    (hw : ∀ (y : s.Idx) (h : ∀ a, off a ≤ (y a).val ∧ (y a).val < off a + size a), w (Rect.unitLocal (s := s) (off := off) (size := size) y h) = G y)
    (hf : ∀ y : s.Idx, (y a).val < n * k → f y = G y) :
    ∀ y : s.Idx, (y a).val < n * (k + 1) → VecWindow.put f off size w y = G y := by
  intro y hy
  unfold VecWindow.put
  split
  · next h => exact hw y h
  · next h =>
    refine hf y ?_
    by_contra hlt
    refine h fun b => ?_
    by_cases hb : b = a
    · subst hb; rw [hoff, hsize]; rw [Nat.mul_succ] at hy; omega
    · rw [(ho b hb).1, (ho b hb).2]; have := (y b).isLt; omega

end Cert.Proof.KI

end
-- ==== Proof.KI.Blocks.lean ====
/-
  Each block loop's store, read as values: the window a trip loads is the block of that number, and a trip's store takes
  a buffer that agrees with the whole result on the first `k` blocks to one that agrees on the first `k + 1`.
-/
module

public import proofs.«01_k».proof.Proof.KI.Pure
public import Idealize.ShloMosaic.Lib.Tactic

@[expose] public section

noncomputable section

namespace Cert.Proof.KI

open Cert.KernelIdeal Cert.KernelIdeal.Gen
open Idealize.ShloMosaic

variable {F : FTy → Type} [FloatOps F]

/-! ### The offsets in closed form -/

/-- Each loop runs eight trips. -/
theorem trips1 : k0_t1_loop.trips = 8 := by decide +kernel
/-- Eight trips. -/
theorem trips2 : k0_t2_loop.trips = 8 := by decide +kernel
/-- Eight trips. -/
theorem trips3 : k0_t3_loop.trips = 8 := by decide +kernel
/-- Eight trips. -/
theorem trips4 : k0_t4_loop.trips = 8 := by decide +kernel

/-- The block number of a trip. -/
abbrev b1 (k : Fin k0_t1_loop.trips) : Fin 8 := Fin.cast trips1 k
/-- The block number of a trip. -/
abbrev b2 (k : Fin k0_t2_loop.trips) : Fin 8 := Fin.cast trips2 k
/-- The block number of a trip. -/
abbrev b3 (k : Fin k0_t3_loop.trips) : Fin 8 := Fin.cast trips3 k
/-- The block number of a trip. -/
abbrev b4 (k : Fin k0_t4_loop.trips) : Fin 8 := Fin.cast trips4 k

/-- Trip `k` reads the points from row `512 k`. -/
theorem off1 : ∀ k : Fin k0_t1_loop.trips, k0_off1 k = ![512 * k.val, 0] := by decide +kernel
/-- Trip `k` reads and writes row vectors from column `512 k`. -/
theorem off2 : ∀ k : Fin k0_t1_loop.trips, k0_off2 k = ![0, 512 * k.val] := by decide +kernel
/-- Trip `k` writes the matrix from row `512 k`. -/
theorem off3 : ∀ k : Fin k0_t1_loop.trips, k0_off3 k = ![512 * k.val, 0] := by decide +kernel
/-- Trip `k` compares the labels from column `512 k`. -/
theorem off4 : ∀ k : Fin k0_t2_loop.trips, k0_off4 k = ![0, 512 * k.val] := by decide +kernel
/-- Trip `k` reads the matrix from row `512 k`. -/
theorem off5 : ∀ k : Fin k0_t2_loop.trips, k0_off5 k = ![512 * k.val, 0] := by decide +kernel
/-- Trip `k` writes row `k` of the partial minima. -/
theorem off6 : ∀ k : Fin k0_t2_loop.trips, k0_off6 k = ![k.val, 0] := by decide +kernel
/-- Trip `k` of the jump works from column `512 k`. -/
theorem off7 : ∀ k : Fin k0_t3_loop.trips, k0_off7 k = ![0, 512 * k.val] := by decide +kernel
/-- Trip `k` of the lookup works from column `512 k`. -/
theorem off8 : ∀ k : Fin k0_t4_loop.trips, k0_off8 k = ![0, 512 * k.val] := by decide +kernel

/-! ### Windows are blocks -/

section Windows

variable {α : Type}

/-- A window of a row from column `512 b` is block `b`. -/
theorem win_col (v : S1x4096.Idx → α) (b : Fin 8) (off : Fin 2 → ℕ) (h : off = ![0, 512 * b.val])
    (inb : ∀ a, off a + S1x512.size a ≤ S1x4096.size a) : VecWindow.window v off S1x512.size inb = colBlk v b := by
  subst h
  funext y
  refine congrArg v (funext fun a => ?_)
  fin_cases a
  · exact Subsingleton.elim (α := Fin 1) _ _
  · exact Fin.ext (by show 512 * b.val + 1 * (y 1).val = 512 * b.val + (y 1).val; omega)

/-- A window of the points from row `512 b` is block `b`. -/
theorem win_row (v : S4096x8.Idx → α) (b : Fin 8) (off : Fin 2 → ℕ) (h : off = ![512 * b.val, 0])
    (inb : ∀ a, off a + S512x8.size a ≤ S4096x8.size a) : VecWindow.window v off S512x8.size inb = rowBlk v b := by
  subst h
  funext y
  refine congrArg v (funext fun a => ?_)
  fin_cases a
  · exact Fin.ext (by show 512 * b.val + 1 * (y 0).val = 512 * b.val + (y 0).val; omega)
  · exact Fin.ext (by show 0 + 1 * (y 1).val = (y 1).val; omega)

/-- A window of the matrix from row `512 b` is block `b`. -/
theorem win_mat (v : S4096x4096.Idx → α) (b : Fin 8) (off : Fin 2 → ℕ) (h : off = ![512 * b.val, 0])
    (inb : ∀ a, off a + S512x4096.size a ≤ S4096x4096.size a) : VecWindow.window v off S512x4096.size inb = matBlk v b := by
  subst h
  funext y
  refine congrArg v (funext fun a => ?_)
  fin_cases a
  · exact Fin.ext (by show 512 * b.val + 1 * (y 0).val = 512 * b.val + (y 0).val; omega)
  · exact Fin.ext (by show 0 + 1 * (y 1).val = (y 1).val; omega)

/-- A block of columns written over a row: the agreeing prefix grows by a block. -/
theorem put_col (k : ℕ) (hk : k < 8) (f G : S1x4096.Idx → α) (off : Fin 2 → ℕ) (h : off = ![0, 512 * k]) (w : S1x512.Idx → α)
    (hw : ∀ j : Fin 512, w (ix2 (0 : Fin 1) j) = G (ix2 (0 : Fin 1) (glue ⟨k, hk⟩ j)))
    (hf : ∀ y : S1x4096.Idx, (y 1).val < 512 * k → f y = G y) :
    ∀ y : S1x4096.Idx, (y 1).val < 512 * (k + 1) → VecWindow.put f off S1x512.size w y = G y := by
  subst h
  refine put_prefix (s := S1x4096) (1 : Fin 2) 512 k f G _ _ w rfl rfl (fun b hb => ?_) (fun y hy => ?_) hf
  · fin_cases b
    · exact ⟨rfl, rfl⟩
    · exact absurd rfl hb
  · have e := hw ⟨(y 1).val - 512 * k, by have := hy 1; have e1 : (![0, 512 * k] : Fin 2 → ℕ) 1 = 512 * k := rfl; have e2 : S1x512.size 1 = 512 := rfl; omega⟩
    have h1 := hy 1
    refine Eq.trans (congrArg w (funext fun a => ?_)) (e.trans (congrArg G (funext fun a => ?_)))
    · fin_cases a
      · exact Subsingleton.elim (α := Fin 1) _ _
      · rfl
    · fin_cases a
      · exact Subsingleton.elim (α := Fin 1) _ _
      · refine Fin.ext ?_
        have e1 : (![0, 512 * k] : Fin 2 → ℕ) 1 = 512 * k := rfl
        show 512 * k + ((y 1).val - 512 * k) = (y 1).val
        omega

/-- A block of rows written over the matrix: the agreeing prefix grows by a block. -/
theorem put_mat (k : ℕ) (hk : k < 8) (f G : S4096x4096.Idx → α) (off : Fin 2 → ℕ) (h : off = ![512 * k, 0]) (w : S512x4096.Idx → α)
    (hw : ∀ (j : Fin 512) (q : Fin 4096), w (ix2 j q) = G (ix2 (glue ⟨k, hk⟩ j) q))
    (hf : ∀ y : S4096x4096.Idx, (y 0).val < 512 * k → f y = G y) :
    ∀ y : S4096x4096.Idx, (y 0).val < 512 * (k + 1) → VecWindow.put f off S512x4096.size w y = G y := by
  subst h
  refine put_prefix (s := S4096x4096) (0 : Fin 2) 512 k f G _ _ w rfl rfl (fun b hb => ?_) (fun y hy => ?_) hf
  · fin_cases b
    · exact absurd rfl hb
    · exact ⟨rfl, rfl⟩
  · have e1 : (![512 * k, 0] : Fin 2 → ℕ) 0 = 512 * k := rfl
    have e2 : S512x4096.size 0 = 512 := rfl
    have h1 := hy 0
    have e := hw ⟨(y 0).val - 512 * k, by omega⟩ (y 1)
    refine Eq.trans (congrArg w (funext fun a => ?_)) (e.trans (congrArg G (funext fun a => ?_)))
    · fin_cases a
      · rfl
      · exact Fin.ext (by show (y 1).val - 0 = (y 1).val; omega)
    · fin_cases a
      · refine Fin.ext ?_
        show 512 * k + ((y 0).val - 512 * k) = (y 0).val
        omega
      · rfl

/-- Row `k` written over the partial minima: the agreeing prefix grows by a row. -/
theorem put_part (k : ℕ) (hk : k < 8) (f G : S8x4096.Idx → α) (off : Fin 2 → ℕ) (h : off = ![k, 0]) (w : S1x4096.Idx → α)
    (hw : ∀ (q : Fin 4096), w (ix2 (0 : Fin 1) q) = G (ix2 (⟨k, hk⟩ : Fin 8) q))
    (hf : ∀ y : S8x4096.Idx, (y 0).val < k → f y = G y) :
    ∀ y : S8x4096.Idx, (y 0).val < k + 1 → VecWindow.put f off S1x4096.size w y = G y := by
  subst h
  intro y hlt
  refine put_prefix (s := S8x4096) (0 : Fin 2) 1 k f G _ _ w (by simp) rfl (fun b hb => ?_) (fun y hy => ?_) (by simpa using hf) y (by omega)
  · fin_cases b
    · exact absurd rfl hb
    · exact ⟨rfl, rfl⟩
  · have e1 : (![k, 0] : Fin 2 → ℕ) 0 = k := rfl
    have e2 : S1x4096.size 0 = 1 := rfl
    have h1 := hy 0
    have e := hw (y 1)
    refine Eq.trans (congrArg w (funext fun a => ?_)) (e.trans (congrArg G (funext fun a => ?_)))
    · fin_cases a
      · exact Subsingleton.elim (α := Fin 1) _ _
      · exact Fin.ext (by show (y 1).val - 0 = (y 1).val; omega)
    · fin_cases a
      · refine Fin.ext ?_
        show k = (y 0).val
        omega
      · rfl

/-- The write through row `k` leaves the other rows alone. -/
theorem put_part_ne (k : ℕ) (f : S8x4096.Idx → α) (off : Fin 2 → ℕ) (h : off = ![k, 0]) (w : S1x4096.Idx → α) (y : S8x4096.Idx) (hy : (y 0).val ≠ k) :
    VecWindow.put f off S1x4096.size w y = f y := by
  subst h
  unfold VecWindow.put
  rw [dif_neg]
  intro hall
  have h1 := hall 0
  have e1 : (![k, 0] : Fin 2 → ℕ) 0 = k := rfl
  have e2 : S1x4096.size 0 = 1 := rfl
  omega

end Windows

end Cert.Proof.KI

end
-- ==== Proof.KI.Loops.lean ====
/-
  The kernel's block loops by their invariants: each loop takes its buffers to the whole result that Pure.lean names.
-/
module

public import proofs.«01_k».proof.Proof.KI.Blocks
public import Idealize.ShloMosaic.Lib.Pipeline.Kit

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants of the label loop: natural numbers. -/
abbrev 𝒱₀ : Variants := Variants.nat

/-- Buffer `b` of core `c` held whole at contents `f`. -/
abbrev pt (c : Dev nD) (b : Ref sig .tc) (f : Buf (Elt F) ((c : Thread nD τ).loc b)) : sProp 𝕄 :=
  iprop(((c : Thread nD τ).loc b) ↦{fullShare} f)

/-- A store over part of a whole buffer puts the payload over that part. -/
theorem write_put (b : Ref sig .tc) {off size : Fin b.ty.shape.rank → ℕ} (inb : ∀ a, off a + size a ≤ b.ty.shape.size a)
    (f : b.ty.Contents (Elt F)) (w : (Rect.unit off size inb).shape.Idx → Elt F b.ty.elt) :
    ((Memref.whole b).access (Rect.unit off size inb) : View sig .tc _ _ _).write (Elt F) f w Finset.univ = VecWindow.put f off size w :=
  View.read_writes_cons_put (Memref.whole b : Memref sig .tc _ _ _).view f inb w [] rfl

/-- The offsets of a whole rank-two load are zero. -/
theorem zero2 : (![0, 0] : Fin 2 → ℕ) = fun _ => 0 := funext fun a => by fin_cases a <;> rfl

/-- A load of a whole row buffer reads its contents. -/
theorem ld_row (b : Ref sig .tc) {off : Fin b.ty.shape.rank → ℕ} (h : off = fun _ => 0) (inb : ∀ a, off a + b.ty.shape.size a ≤ b.ty.shape.size a)
    (f : b.ty.Contents (Elt F)) :
    View.readAt (Elt F) (Memref.whole b : Memref sig .tc _ _ _).view (Rect.unit off b.ty.shape.size inb).toLoadRect f = f :=
  Memref.readAt_unit_zero (Elt F) b h inb f

/-- The whole row. -/
abbrev rRow : LoadRect S1x4096 := (Rect.unit (s := S1x4096) ![0, 0] S1x4096.size inb_S1x4096_S1x4096_0_0).toLoadRect

section Rules

variable (c : Dev nD) (o : Option ℕ) (E : Set ℕ)

/-- The invariant of the first loop: the first `k` blocks of the matrix and of the counts are done. -/
def inv1 (x : Vec F S4096x8 .f32) (k : ℕ) (_ : Unit) : sProp 𝕄 :=
  iprop(pt c cc0_stg0_0 x ∗ pt c cc0_scratch3 (sqRow x)
    ∗ (∃ f : Vec F S4096x4096 .bf16, ⌜∀ y : S4096x4096.Idx, (y 0).val < 512 * k → f y = adjM x y⌝ ∗ pt c cc0_scratch0 f)
    ∗ (∃ f : Vec F S1x4096 .f32, ⌜∀ y : S1x4096.Idx, (y 1).val < 512 * k → f y = degV x y⌝ ∗ pt c cc0_scratch1 f))

/-- One trip of the first loop. -/
theorem step1 (x : Vec F S4096x8 .f32) (k : Fin k0_t1_loop.trips) (acc : Unit) :
    inv1 c x k.val acc ⊢ wp frame (wpE (defs₀ (F := F)) 𝒱₀ (c : Thread nD τ) o) E
      (k0_t1_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) x k acc) (inv1 c x (k.val + 1)) := by
  have hk : k.val < 8 := Nat.lt_of_lt_of_eq k.isLt trips1
  unfold k0_t1_body inv1
  simp only [Prog.lift, Prog.bind_op, Prog.bind_ret, Prog.pure_eq_ret]
  iintro ⟨Hx, Hs, ⟨%fm, %hm, Hm⟩, ⟨%fd, %hd, Hd⟩⟩
  iapply (wp_load 𝒱₀ (c : Thread nD τ) o E (m := Memref.whole cc0_stg0_0) (Finset.subset_univ _)) $$ Hx; iintro Hx
  iapply (wp_load 𝒱₀ (c : Thread nD τ) o E (m := Memref.whole cc0_scratch3) (Finset.subset_univ _)) $$ Hs; iintro Hs
  iapply (wp_load 𝒱₀ (c : Thread nD τ) o E (m := Memref.whole cc0_scratch0) (Finset.subset_univ _)) $$ Hm; iintro Hm
  iapply (wp_store 𝒱₀ (c : Thread nD τ) o E (m := Memref.whole cc0_scratch0)
    (r := Rect.unit (s := S4096x4096) (k0_off3 k) S512x4096.size (k0_off3_inb k)) (Mk := Finset.univ) (Finset.subset_univ _)) $$ Hm; iintro Hm
  iapply (wp_load 𝒱₀ (c : Thread nD τ) o E (m := Memref.whole cc0_scratch1) (Finset.subset_univ _)) $$ Hd; iintro Hd
  iapply (wp_store 𝒱₀ (c : Thread nD τ) o E (m := Memref.whole cc0_scratch1)
    (r := Rect.unit (s := S1x4096) (k0_off2 k) S1x512.size (k0_off2_inb k)) (Mk := Finset.univ) (Finset.subset_univ _)) $$ Hd; iintro Hd
  rw [wp_ret]; imodintro
  isplitl [Hx]; · iexact Hx
  isplitl [Hs]; · iexact Hs
  isplitl [Hm]
  · iexists _; isplitr; swap; · iexact Hm
    ipureintro
    rw [write_put cc0_scratch0]
    refine put_mat k.val hk fm (adjM x) _ (off3 k) _ (fun j q => ?_) hm
    rw [show View.readAt (Elt F) (Memref.whole cc0_stg0_0).view _ x = _ from win_row x (b1 k) _ (off1 k) (k0_off1_inb k),
      show View.readAt (Elt F) (Memref.whole cc0_scratch3).view _ (sqRow x) = _ from win_col (sqRow x) (b1 k) _ (off2 k) (k0_off2_inb k)]
    simp only [adjM, ix2_0, ix2_1, blk_glue, loc_glue]; rfl
  · iexists _; isplitr; swap; · iexact Hd
    ipureintro
    rw [write_put cc0_scratch1]
    refine put_col k.val hk fd (degV x) _ (off2 k) _ (fun j => ?_) hd
    rw [show View.readAt (Elt F) (Memref.whole cc0_stg0_0).view _ x = _ from win_row x (b1 k) _ (off1 k) (k0_off1_inb k),
      show View.readAt (Elt F) (Memref.whole cc0_scratch3).view _ (sqRow x) = _ from win_col (sqRow x) (b1 k) _ (off2 k) (k0_off2_inb k)]
    simp only [degV, ix2_0, ix2_1, blk_glue, loc_glue]; rfl

/-- The invariant of a pass: the first `k` rows of the partial minima are the new ones, the others the old ones. -/
def inv2 (M : Vec F S4096x4096 .bf16) (labm prev : Vec F S1x4096 .f32) (part : Vec F S8x4096 .f32) (k : ℕ) (_ : BitVec 32) : sProp 𝕄 :=
  iprop(pt c cc0_scratch4 labm ∗ pt c cc0_scratch5 prev ∗ pt c cc0_scratch0 M
    ∗ (∃ f : Vec F S8x4096 .f32, ⌜(∀ y : S8x4096.Idx, (y 0).val < k → f y = partStep M labm prev part y)
        ∧ (∀ y : S8x4096.Idx, k ≤ (y 0).val → f y = part y)⌝ ∗ pt c cc0_scratch6 f))

/-- One trip of a pass. -/
theorem step2 (core : IVec S1x4096 1) (v5 lab : FVec F S1x4096 .f32) (it : BitVec 32) (dn : BitVec 1)
    (M : Vec F S4096x4096 .bf16) (labm prev : Vec F S1x4096 .f32) (part : Vec F S8x4096 .f32) (k : Fin k0_t2_loop.trips) (acc : BitVec 32) :
    inv2 c M labm prev part k.val acc ⊢ wp frame (wpE (defs₀ (F := F)) 𝒱₀ (c : Thread nD τ) o) E
      (k0_t2_body core (Memref.whole cc0_scratch4) (Memref.isWhole_whole _) (Memref.whole cc0_scratch5) (Memref.isWhole_whole _)
        (Memref.whole cc0_scratch0) (Memref.isWhole_whole _) (Memref.whole cc0_scratch6) (Memref.isWhole_whole _)
        (Memref.whole cc0_scratch3) (Memref.isWhole_whole _) v5 (Memref.whole cc0_scratch2) (Memref.isWhole_whole _) lab it dn k acc)
      (inv2 c M labm prev part (k.val + 1)) := by
  have hk : k.val < 8 := Nat.lt_of_lt_of_eq k.isLt trips2
  unfold k0_t2_body inv2
  simp only [Prog.lift, Prog.bind_op, Prog.bind_ret, Prog.pure_eq_ret]
  iintro ⟨Hl, Hp, HM, ⟨%fp, %hfp, Hf⟩⟩
  obtain ⟨hlt, hge⟩ := hfp
  iapply (wp_load 𝒱₀ (c : Thread nD τ) o E (m := Memref.whole cc0_scratch4) (Finset.subset_univ _)) $$ Hl; iintro Hl
  iapply (wp_load 𝒱₀ (c : Thread nD τ) o E (m := Memref.whole cc0_scratch5) (Finset.subset_univ _)) $$ Hp; iintro Hp
  rw [show View.readAt (Elt F) (Memref.whole cc0_scratch4).view _ labm = _ from win_col labm (b2 k) _ (off4 k) (k0_off4_inb k),
    show View.readAt (Elt F) (Memref.whole cc0_scratch5).view _ prev = _ from win_col prev (b2 k) _ (off4 k) (k0_off4_inb k)]
  by_cases hc : changed (colBlk labm (b2 k)) (colBlk prev (b2 k))
  · rw [if_pos (show _ = _ from hc)]
    simp only [Prog.lift, Prog.bind_op, Prog.bind_ret, Prog.pure_eq_ret]
    iapply (wp_load 𝒱₀ (c : Thread nD τ) o E (m := Memref.whole cc0_scratch0) (Finset.subset_univ _)) $$ HM; iintro HM
    iapply (wp_load 𝒱₀ (c : Thread nD τ) o E (m := Memref.whole cc0_scratch6) (Finset.subset_univ _)) $$ Hf; iintro Hf
    iapply (wp_store 𝒱₀ (c : Thread nD τ) o E (m := Memref.whole cc0_scratch6)
      (r := Rect.unit (s := S8x4096) (k0_off6 k) S1x4096.size (k0_off6_inb k)) (Mk := Finset.univ) (Finset.subset_univ _)) $$ Hf; iintro Hf
    rw [wp_ret]; imodintro
    isplitl [Hl]; · iexact Hl
    isplitl [Hp]; · iexact Hp
    isplitl [HM]; · iexact HM
    iexists _; isplitr; swap; · iexact Hf
    ipureintro
    rw [write_put cc0_scratch6]
    rw [show View.readAt (Elt F) (Memref.whole cc0_scratch0).view _ M = _ from win_mat M (b2 k) _ (off5 k) (k0_off5_inb k)]
    refine ⟨put_part k.val hk fp (partStep M labm prev part) _ (off6 k) _ (fun q => ?_) hlt, fun y hy => ?_⟩
    · simp only [partStep, ix2_0, ix2_1]
      exact (if_pos hc).symm
    · rw [put_part_ne k.val fp _ (off6 k) _ y (by omega)]
      exact hge y (by omega)
  · rw [if_neg (show ¬ (_ = _) from hc)]
    simp only [Prog.lift, Prog.bind_op, Prog.bind_ret, Prog.pure_eq_ret]
    rw [wp_ret]; imodintro
    isplitl [Hl]; · iexact Hl
    isplitl [Hp]; · iexact Hp
    isplitl [HM]; · iexact HM
    iexists _; isplitr; swap; · iexact Hf
    ipureintro
    refine ⟨fun y hy => ?_, fun y hy => hge y (by omega)⟩
    by_cases hyk : (y 0).val < k.val
    · exact hlt y hyk
    · have hb : y 0 = b2 k := Fin.ext (by show (y 0).val = k.val; omega)
      rw [hge y (by omega)]
      unfold partStep
      rw [hb]
      exact (if_neg hc).symm

/-- The invariant of the jump: the first `k` blocks of the jumped labels are done. -/
def inv3 (h : Vec F S1x4096 .f32) (k : ℕ) (_ : BitVec 32) : sProp 𝕄 :=
  iprop(pt c cc0_scratch3 h
    ∗ (∃ f : Vec F S1x4096 .f32, ⌜∀ y : S1x4096.Idx, (y 1).val < 512 * k → f y = jumpV h y⌝ ∗ pt c cc0_scratch2 f))

/-- The invariant of the lookup: the first `k` blocks of the looked up numbers are done. -/
def inv4 (root cid : Vec F S1x4096 .f32) (k : ℕ) (_ : Unit) : sProp 𝕄 :=
  iprop(pt c cc0_scratch3 root ∗ pt c cc0_scratch1 cid
    ∗ (∃ f : Vec F S1x4096 .i32, ⌜∀ y : S1x4096.Idx, (y 1).val < 512 * k → f y = lookV root cid y⌝ ∗ pt c cc0_stg1_0 f))

/-- One trip of the lookup. -/
theorem step4 (root cid : Vec F S1x4096 .f32) (k : Fin k0_t4_loop.trips) (acc : Unit) :
    inv4 c root cid k.val acc ⊢ wp frame (wpE (defs₀ (F := F)) 𝒱₀ (c : Thread nD τ) o) E
      (k0_t4_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) (Memref.whole cc0_scratch3) (Memref.isWhole_whole _)
        (Memref.whole cc0_scratch4) (Memref.isWhole_whole _) (Memref.whole cc0_scratch5) (Memref.isWhole_whole _)
        (Memref.whole cc0_scratch6) (Memref.isWhole_whole _) (k0_pay7 (F := F)) k acc) (inv4 c root cid (k.val + 1)) := by
  have hk : k.val < 8 := Nat.lt_of_lt_of_eq k.isLt trips4
  unfold k0_t4_body inv4
  simp only [Prog.lift, Prog.bind_op, Prog.bind_ret, Prog.pure_eq_ret]
  iintro ⟨Hr, Hc, ⟨%fo, %ho, Ho⟩⟩
  iapply (wp_load 𝒱₀ (c : Thread nD τ) o E (m := Memref.whole cc0_scratch3) (Finset.subset_univ _)) $$ Hr; iintro Hr
  iapply (wp_load 𝒱₀ (c : Thread nD τ) o E (m := Memref.whole cc0_scratch1) (Finset.subset_univ _)) $$ Hc; iintro Hc
  iapply (wp_load 𝒱₀ (c : Thread nD τ) o E (m := Memref.whole cc0_stg1_0) (Finset.subset_univ _)) $$ Ho; iintro Ho
  iapply (wp_store 𝒱₀ (c : Thread nD τ) o E (m := Memref.whole cc0_stg1_0)
    (r := Rect.unit (s := S1x4096) (k0_off8 k) S1x512.size (k0_off8_inb k)) (Mk := Finset.univ) (Finset.subset_univ _)) $$ Ho; iintro Ho
  rw [wp_ret]; imodintro
  isplitl [Hr]; · iexact Hr
  isplitl [Hc]; · iexact Hc
  iexists _; isplitr; swap; · iexact Ho
  ipureintro
  rw [write_put cc0_stg1_0]
  refine put_col k.val hk fo (lookV root cid) _ (off8 k) _ (fun j => ?_) ho
  rw [show View.readAt (Elt F) (Memref.whole cc0_scratch3).view _ root = _ from win_col root (b4 k) _ (off8 k) (k0_off8_inb k),
    show View.readAt (Elt F) (Memref.whole cc0_scratch1).view rRow cid = cid from ld_row cc0_scratch1 zero2 inb_S1x4096_S1x4096_0_0 cid]
  simp only [lookV, ix2_0, ix2_1, blk_glue, loc_glue]; rfl

end Rules

end Cert.Proof.KI

end
-- ==== Proof.KI.While.lean ====
/-
  The label loop: one pass with its hook (`part3_wp`), the jump (`jump_wp`), and the loop's label met by its body at a
  bound on the rounds still to run (`spec_le`).
-/
module

public import proofs.«01_k».proof.Proof.KI.Loops

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (o : Option ℕ) (E : Set ℕ)

/-- A row stored whole is the stored row. -/
theorem st_row (b : Ref sig .tc) {off : Fin b.ty.shape.rank → ℕ} (h : off = fun _ => 0) (inb : ∀ a, off a + b.ty.shape.size a ≤ b.ty.shape.size a)
    (f w : b.ty.Contents (Elt F)) :
    ((Memref.whole b).access (Rect.unit off b.ty.shape.size inb) : View sig .tc _ _ _).write (Elt F) f w Finset.univ = w :=
  Memref.write_access_unit_zero_univ (Elt F) b h inb f w

/-- The rectangle of a whole row. -/
abbrev rRow' : Rect S1x4096 := Rect.unit (s := S1x4096) ![0, 0] S1x4096.size inb_S1x4096_S1x4096_0_0

/-- What the label loop holds: the adjacency matrix, the labels of the last pass and the partial minima at their
    contents, and three rows at whatever they hold. -/
def held (M : Vec F S4096x4096 .bf16) (s : WS F) : sProp 𝕄 :=
  iprop(pt c cc0_scratch0 M ∗ pt c cc0_scratch5 s.prev ∗ pt c cc0_scratch6 s.part
    ∗ (∃ f, pt (F := F) c cc0_scratch2 f) ∗ (∃ f, pt (F := F) c cc0_scratch3 f) ∗ (∃ f, pt (F := F) c cc0_scratch4 f))

/-- One pass with its hook. -/
theorem part3_wp (core : IVec S1x4096 1) (M : Vec F S4096x4096 .bf16) (s : WS F) (v5 : FVec F S1x4096 .f32)
    (K : (Σ' (_ : FVec F S1x4096 .f32) (_ : BitVec 1), BitVec 32) → sProp 𝕄) :
    iprop(held c M s ∗ (iprop(pt c cc0_scratch0 M ∗ pt c cc0_scratch5 (s.next core M).prev ∗ pt c cc0_scratch6 (s.part' core M)
        ∗ (∃ f, pt (F := F) c cc0_scratch2 f) ∗ pt c cc0_scratch3 (s.hook core M) ∗ (∃ f, pt (F := F) c cc0_scratch4 f))
        -∗ K ⟨k0_pay24 core s.lab (s.part' core M), (s.next core M).dn, Scalar.select (Scalar.cmpi .eq 4#32 0#32) 1#32 4#32⟩))
      ⊢ wp frame (wpE (defs₀ (F := F)) 𝒱₀ (c : Thread nD τ) o) E
        (k0_part3 core (Memref.whole cc0_scratch4) (Memref.isWhole_whole _) (Memref.whole cc0_scratch5) (Memref.isWhole_whole _)
          (Memref.whole cc0_scratch0) (Memref.isWhole_whole _) (Memref.whole cc0_scratch6) (Memref.isWhole_whole _)
          (Memref.whole cc0_scratch3) (Memref.isWhole_whole _) v5 (Memref.whole cc0_scratch2) (Memref.isWhole_whole _) s.lab s.it s.dn) K := by
  rw [show (s.next core M).dn = Scalar.cmpf .ogt (k0_pay26 core s.lab (s.part' core M)) (FloatOps.ofBits .f32 0#32 : F .f32) from rfl]
  simp only [k0_part3_eq_skeleton]; unfold k0_part3_skel held
  simp only [Prog.lift, Prog.bind_op, Prog.bind_ret, Prog.pure_eq_ret]
  iintro ⟨⟨HM, Hprev, Hpart, HJ, ⟨%f3, H3⟩, ⟨%f4, H4⟩⟩, Hk⟩
  iapply (wp_load 𝒱₀ (c : Thread nD τ) o E (m := Memref.whole cc0_scratch4) (Finset.subset_univ _)) $$ H4; iintro H4
  iapply (wp_store 𝒱₀ (c : Thread nD τ) o E (m := Memref.whole cc0_scratch4) (r := rRow') (Mk := Finset.univ) (Finset.subset_univ _)) $$ H4; iintro H4
  rw [show View.write (Elt F) ((Memref.whole cc0_scratch4).access rRow') f4 _ Finset.univ = _ from st_row cc0_scratch4 zero2 inb_S1x4096_S1x4096_0_0 f4 _]
  iapply (Scf.wp_for_bind frame (wpE (defs₀ (F := F)) 𝒱₀ (c : Thread nD τ) o) E k0_t2_loop.lb k0_t2_loop.ub k0_t2_loop.st k0_t2_ok _ _
    (inv2 c M (k0_pay20 core s.lab) s.prev s.part) (step2 c o E core v5 s.lab s.it s.dn M (k0_pay20 core s.lab) s.prev s.part)) $$ [H4 Hprev HM Hpart]
  · unfold inv2
    isplitl [H4]; · iexact H4
    isplitl [Hprev]; · iexact Hprev
    isplitl [HM]; · iexact HM
    iexists s.part; isplitr
    · ipureintro; exact ⟨fun y hy => absurd hy (Nat.not_lt_zero _), fun y _ => rfl⟩
    iexact Hpart
  iintro %acc Hinv
  unfold inv2; icases Hinv with ⟨H4, Hprev, HM, ⟨%fp, %hfp, Hpart⟩⟩
  obtain rfl : fp = s.part' core M := funext fun y => hfp.1 y (Nat.lt_of_lt_of_eq (y 0).isLt trips2.symm)
  iapply (wp_load 𝒱₀ (c : Thread nD τ) o E (m := Memref.whole cc0_scratch5) (Finset.subset_univ _)) $$ Hprev; iintro Hprev
  iapply (wp_store 𝒱₀ (c : Thread nD τ) o E (m := Memref.whole cc0_scratch5) (r := rRow') (Mk := Finset.univ) (Finset.subset_univ _)) $$ Hprev; iintro Hprev
  rw [show View.write (Elt F) ((Memref.whole cc0_scratch5).access rRow') s.prev _ Finset.univ = _ from st_row cc0_scratch5 zero2 inb_S1x4096_S1x4096_0_0 s.prev _]
  iapply (wp_load 𝒱₀ (c : Thread nD τ) o E (m := Memref.whole cc0_scratch6) (Finset.subset_univ _)) $$ Hpart; iintro Hpart
  rw [show View.readAt (Elt F) (Memref.whole cc0_scratch6).view (Rect.unit (s := S8x4096) ![0, 0] S8x4096.size inb_S8x4096_S8x4096_0_0).toLoadRect (s.part' core M) = s.part' core M
    from ld_row cc0_scratch6 zero2 inb_S8x4096_S8x4096_0_0 _]
  iapply (wp_load 𝒱₀ (c : Thread nD τ) o E (m := Memref.whole cc0_scratch3) (Finset.subset_univ _)) $$ H3; iintro H3
  iapply (wp_store 𝒱₀ (c : Thread nD τ) o E (m := Memref.whole cc0_scratch3) (r := rRow') (Mk := Finset.univ) (Finset.subset_univ _)) $$ H3; iintro H3
  rw [show View.write (Elt F) ((Memref.whole cc0_scratch3).access rRow') f3 _ Finset.univ = _ from st_row cc0_scratch3 zero2 inb_S1x4096_S1x4096_0_0 f3 _]
  rw [wp_ret]; imodintro
  iapply Hk
  isplitl [HM]; · iexact HM
  isplitl [Hprev]; · iexact Hprev
  isplitl [Hpart]; · iexact Hpart
  isplitl [HJ]; · iexact HJ
  isplitl [H3]; · iexact H3
  iexists _; iexact H4

/-- The label's specification with `k` rounds to run. -/
def spec (core : IVec S1x4096 1) (M : Vec F S4096x4096 .bf16) (k : ℕ) (s : WS F) : sWPT 𝕄 (FVec F S1x4096 .f32 × BitVec 32 × BitVec 1) := do
  sWPT.consume (held c M s)
  sWPT.produce (held c M (WS.run core M k s))
  pure ((WS.run core M k s).lab, (WS.run core M k s).it, (WS.run core M k s).dn)

/-- The specification spelled out. -/
theorem spec_apply (core : IVec S1x4096 1) (M : Vec F S4096x4096 .bf16) (k : ℕ) (s : WS F) (K : FVec F S1x4096 .f32 × BitVec 32 × BitVec 1 → sProp 𝕄) :
    spec c core M k s K = iprop(held c M s ∗ (held c M (WS.run core M k s)
      -∗ K ((WS.run core M k s).lab, (WS.run core M k s).it, (WS.run core M k s).dn))) := rfl

/-- At the last round's number the test fails. -/
theorem not_test (s : WS F) (h : s.it = 96#32) : ¬ s.test := by
  unfold WS.test; rw [h]
  rcases BitVec.eq_zero_or_eq_one s.dn with hd | hd <;> rw [hd] <;> decide

/-- The number of the next round. -/
theorem it_succ (k : ℕ) (hk : k + 1 ≤ 96) : Scalar.addi (BitVec.ofNat 32 (96 - (k + 1))) 1#32 = BitVec.ofNat 32 (96 - k) := by
  have : ∀ j : Fin 96, Scalar.addi (BitVec.ofNat 32 (96 - (j.val + 1))) 1#32 = BitVec.ofNat 32 (96 - j.val) := by decide
  exact this ⟨k, by omega⟩

/-- The specification with `k` rounds to run is met by the label's body entered at variant `k`. -/
theorem spec_le (core : IVec S1x4096 1) (M : Vec F S4096x4096 .bf16) :
    ∀ (k : ℕ) (hk : k ≤ 96) (s : WS F), s.it = BitVec.ofNat 32 (96 - k) → ∀ K, spec c core M k s K
      ⊢ wp frame (wpE (defs₀ (F := F)) 𝒱₀ (c : Thread nD τ) (some k)) E
        (defs₀ (F := F) .tc 1 ⟨core, Memref.whole cc0_scratch4, Memref.isWhole_whole _, Memref.whole cc0_scratch5, Memref.isWhole_whole _,
          Memref.whole cc0_scratch0, Memref.isWhole_whole _, Memref.whole cc0_scratch6, Memref.isWhole_whole _,
          Memref.whole cc0_scratch3, Memref.isWhole_whole _, k0_pay7 (F := F), Memref.whole cc0_scratch2, Memref.isWhole_whole _, s.lab, s.it, s.dn⟩) K := by
  intro k
  induction k with
  | zero =>
    intro hk s hs K
    rw [spec_apply]
    show _ ⊢ wp frame (wpE (defs₀ (F := F)) 𝒱₀ (c : Thread nD τ) (some 0)) E
      (cc0_while1 core (Memref.whole cc0_scratch4) (Memref.isWhole_whole _) (Memref.whole cc0_scratch5) (Memref.isWhole_whole _)
          (Memref.whole cc0_scratch0) (Memref.isWhole_whole _) (Memref.whole cc0_scratch6) (Memref.isWhole_whole _)
          (Memref.whole cc0_scratch3) (Memref.isWhole_whole _) (k0_pay7 (F := F)) (Memref.whole cc0_scratch2) (Memref.isWhole_whole _) s.lab s.it s.dn) K
    simp only [cc0_while1_eq_skeleton]; unfold cc0_while1_skel
    have ht : ¬ (Scalar.andi (Scalar.cmpi .slt s.it 96#32) (Scalar.xori s.dn 1#1) = 1#1) := not_test s hs
    simp only [if_neg ht, Prog.pure_eq_ret]
    rw [show WS.run core M 0 s = s from rfl]
    iintro ⟨H, Hk⟩
    rw [wp_ret]; imodintro
    iapply Hk; iexact H
  | succ k ih =>
    intro hk s hs K
    rw [spec_apply]
    show _ ⊢ wp frame (wpE (defs₀ (F := F)) 𝒱₀ (c : Thread nD τ) (some (k + 1))) E
      (cc0_while1 core (Memref.whole cc0_scratch4) (Memref.isWhole_whole _) (Memref.whole cc0_scratch5) (Memref.isWhole_whole _)
          (Memref.whole cc0_scratch0) (Memref.isWhole_whole _) (Memref.whole cc0_scratch6) (Memref.isWhole_whole _)
          (Memref.whole cc0_scratch3) (Memref.isWhole_whole _) (k0_pay7 (F := F)) (Memref.whole cc0_scratch2) (Memref.isWhole_whole _) s.lab s.it s.dn) K
    simp only [cc0_while1_eq_skeleton]; unfold cc0_while1_skel
    by_cases ht : s.test
    · have ht' : Scalar.andi (Scalar.cmpi .slt s.it 96#32) (Scalar.xori s.dn 1#1) = 1#1 := ht
      simp only [if_pos ht']
      rw [show WS.run core M (k + 1) s = WS.run core M k (s.next core M) by rw [WS.run, if_pos ht]]
      rw [wp_bind]
      iintro ⟨H, Hk⟩
      iapply (part3_wp c (some (k + 1)) E core M s (k0_pay7 (F := F)) _)
      isplitl [H]; · iexact H
      iintro ⟨HM, Hprev, Hpart, ⟨%f2, H2⟩, H3, H4⟩
      dsimp only
      have hit : (s.next core M).it = BitVec.ofNat 32 (96 - k) := by
        show Scalar.addi s.it 1#32 = _; rw [hs]; exact it_succ k hk
      by_cases hj : jumps s.it
      · rw [if_pos (show _ = _ from hj)]
        simp only [Prog.lift, Prog.bind_op, Prog.bind_ret, Prog.pure_eq_ret]
        iapply (wp_load 𝒱₀ (c : Thread nD τ) (some (k + 1)) E (m := Memref.whole cc0_scratch3) (Finset.subset_univ _)) $$ H3; iintro H3
        iapply (wp_load 𝒱₀ (c : Thread nD τ) (some (k + 1)) E (m := Memref.whole cc0_scratch3) (Finset.subset_univ _)) $$ H3; iintro H3
        rw [show View.readAt (Elt F) (Memref.whole cc0_scratch3).view rRow (s.hook core M) = s.hook core M from ld_row cc0_scratch3 zero2 inb_S1x4096_S1x4096_0_0 _]
        iapply (Scf.wp_for_bind frame (wpE (defs₀ (F := F)) 𝒱₀ (c : Thread nD τ) (some (k + 1))) E k0_t3_loop.lb k0_t3_loop.ub k0_t3_loop.st k0_t3_ok _ _
          (inv3 c (s.hook core M)) (fun t acc => ?_)) $$ [H3 H2]
        · have hk3 : t.val < 8 := Nat.lt_of_lt_of_eq t.isLt trips3
          unfold inv3
          iintro ⟨H3, ⟨%fj, %hfj, H2⟩⟩
          iapply (wp_load 𝒱₀ (c : Thread nD τ) (some (k + 1)) E (m := Memref.whole cc0_scratch3) (Finset.subset_univ _)) $$ H3; iintro H3
          iapply (wp_load 𝒱₀ (c : Thread nD τ) (some (k + 1)) E (m := Memref.whole cc0_scratch2) (Finset.subset_univ _)) $$ H2; iintro H2
          iapply (wp_store 𝒱₀ (c : Thread nD τ) (some (k + 1)) E (m := Memref.whole cc0_scratch2)
            (r := Rect.unit (s := S1x4096) (k0_off7 t) S1x512.size (k0_off7_inb t)) (Mk := Finset.univ) (Finset.subset_univ _)) $$ H2; iintro H2
          rw [wp_ret]; imodintro
          isplitl [H3]; · iexact H3
          iexists _; isplitr; swap; · iexact H2
          ipureintro
          rw [write_put cc0_scratch2]
          refine put_col t.val hk3 fj (jumpV (s.hook core M)) _ (off7 t) _ (fun j => ?_) hfj
          rw [show View.readAt (Elt F) (Memref.whole cc0_scratch3).view _ (s.hook core M) = _ from win_col (s.hook core M) (b3 t) _ (off7 t) (k0_off7_inb t)]
          simp only [jumpV, ix2_0, ix2_1, blk_glue, loc_glue]; rfl
        · unfold inv3
          isplitl [H3]; · iexact H3
          iexists f2; isplitr
          · ipureintro; exact fun y hy => absurd hy (Nat.not_lt_zero _)
          iexact H2
        iintro %acc Hinv
        unfold inv3; icases Hinv with ⟨H3, ⟨%fj, %hfj, H2⟩⟩
        obtain rfl : fj = jumpV (s.hook core M) := funext fun y => hfj y (by
          have h1 : 512 * k0_t3_loop.trips = 4096 := by rw [trips3]
          exact Nat.lt_of_lt_of_eq (y 1).isLt h1.symm)
        iapply (wp_load 𝒱₀ (c : Thread nD τ) (some (k + 1)) E (m := Memref.whole cc0_scratch2) (Finset.subset_univ _)) $$ H2; iintro H2
        rw [show View.readAt (Elt F) (Memref.whole cc0_scratch2).view rRow (jumpV (s.hook core M)) = jumpV (s.hook core M) from ld_row cc0_scratch2 zero2 inb_S1x4096_S1x4096_0_0 _]
        have hl : (s.next core M).lab = k0_pay5 (s.hook core M) (jumpV (s.hook core M)) := by
          unfold WS.next; exact if_pos hj
        rw [← hl]
        iapply (wp_call_spec 𝒱₀ (c : Thread nD τ) (some (k + 1)) E (spec c core M k (s.next core M)) k
          (fun u hu => by cases hu; exact Nat.lt_succ_self k) (ih (by omega) (s.next core M) hit))
        rw [spec_apply]
        isplitl [HM Hprev Hpart H2 H3 H4]
        · unfold held
          isplitl [HM]; · iexact HM
          isplitl [Hprev]; · iexact Hprev
          isplitl [Hpart]; · iexact Hpart
          isplitl [H2]; · iexists _; iexact H2
          isplitl [H3]; · iexists _; iexact H3
          iexact H4
        iintro H
        rw [wp_ret]; imodintro
        iapply Hk; iexact H
      · rw [if_neg (show ¬ (_ = _) from hj)]
        simp only [Prog.lift, Prog.bind_op, Prog.bind_ret, Prog.pure_eq_ret]
        have hl : (s.next core M).lab = k0_pay24 core s.lab (s.part' core M) := by
          unfold WS.next; exact if_neg hj
        rw [← hl]
        iapply (wp_call_spec 𝒱₀ (c : Thread nD τ) (some (k + 1)) E (spec c core M k (s.next core M)) k
          (fun u hu => by cases hu; exact Nat.lt_succ_self k) (ih (by omega) (s.next core M) hit))
        rw [spec_apply]
        isplitl [HM Hprev Hpart H2 H3 H4]
        · unfold held
          isplitl [HM]; · iexact HM
          isplitl [Hprev]; · iexact Hprev
          isplitl [Hpart]; · iexact Hpart
          isplitl [H2]; · iexists _; iexact H2
          isplitl [H3]; · iexists _; iexact H3
          iexact H4
        iintro H
        rw [wp_ret]; imodintro
        iapply Hk; iexact H
    · have ht' : ¬ (Scalar.andi (Scalar.cmpi .slt s.it 96#32) (Scalar.xori s.dn 1#1) = 1#1) := ht
      rw [show WS.run core M (k + 1) s = s by rw [WS.run, if_neg ht]]
      simp only [if_neg ht', Prog.pure_eq_ret]
      iintro ⟨H, Hk⟩
      rw [wp_ret]; imodintro
      iapply Hk; iexact H

/-- The same with the three carried values spelt otherwise. -/
theorem spec_le' (core : IVec S1x4096 1) (M : Vec F S4096x4096 .bf16) (k : ℕ) (hk : k ≤ 96) (s : WS F) (hs : s.it = BitVec.ofNat 32 (96 - k))
    (lab : FVec F S1x4096 .f32) (it : BitVec 32) (dn : BitVec 1) (h1 : s.lab = lab) (h2 : s.it = it) (h3 : s.dn = dn) : ∀ K, spec c core M k s K
      ⊢ wp frame (wpE (defs₀ (F := F)) 𝒱₀ (c : Thread nD τ) (some k)) E
        (defs₀ (F := F) .tc 1 ⟨core, Memref.whole cc0_scratch4, Memref.isWhole_whole _, Memref.whole cc0_scratch5, Memref.isWhole_whole _,
          Memref.whole cc0_scratch0, Memref.isWhole_whole _, Memref.whole cc0_scratch6, Memref.isWhole_whole _,
          Memref.whole cc0_scratch3, Memref.isWhole_whole _, k0_pay7 (F := F), Memref.whole cc0_scratch2, Memref.isWhole_whole _, lab, it, dn⟩) K := by
  subst h1 h2 h3
  exact spec_le c E core M k hk s hs

end Cert.Proof.KI

end
-- ==== Proof.KI.Body.lean ====
/-
  The whole kernel body: from the points in the first staging buffer to the labels in the second (`body_wp`).
-/
module

public import proofs.«01_k».proof.Proof.KI.While

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (E : Set ℕ)

/-- The three rows the label loop leaves at whatever they hold. -/
def junk3 : sProp 𝕄 :=
  iprop((∃ f, pt (F := F) c cc0_scratch2 f) ∗ (∃ f, pt (F := F) c cc0_scratch4 f) ∗ (∃ f, pt (F := F) c cc0_scratch5 f))

/-- The first part of the body: up to the roots. -/
theorem part1_wp (x : Vec F S4096x8 .f32) (p : Vec F S8x4096 .f32) (K : (Σ' (_ : FVec F S1x4096 .f32), IVec S1x4096 32) → sProp 𝕄) :
    iprop(iprop(pt c cc0_stg0_0 x ∗ (∃ f, pt (F := F) c cc0_scratch0 f) ∗ (∃ f, pt (F := F) c cc0_scratch1 f) ∗ (∃ f, pt (F := F) c cc0_scratch3 f)
        ∗ junk3 c ∗ pt c cc0_scratch6 p)
      ∗ (iprop(pt c cc0_stg0_0 x ∗ (∃ f, pt (F := F) c cc0_scratch0 f) ∗ (∃ f, pt (F := F) c cc0_scratch1 f) ∗ pt c cc0_scratch3 (rootV x p)
        ∗ junk3 c ∗ (∃ f, pt (F := F) c cc0_scratch6 f))
        -∗ K ⟨k0_pay7 (F := F), k0_pay16 (degV x) (wsEnd x p).lab⟩))
      ⊢ wp frame (wpE (defs₀ (F := F)) 𝒱₀ (c : Thread nD τ) none) E
        (k0_part1 (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _)) K := by
  simp only [k0_part1_eq_skeleton]; unfold k0_part1_skel junk3
  simp only [Prog.lift, Prog.bind_op, Prog.bind_ret, Prog.pure_eq_ret]
  iintro ⟨⟨Hx, ⟨%f0, H0⟩, ⟨%f1, H1⟩, ⟨%f3, H3⟩, ⟨H2, H4, ⟨%f5, H5⟩⟩, H6⟩, Hk⟩
  iapply (wp_load 𝒱₀ (c : Thread nD τ) none E (m := Memref.whole cc0_stg0_0) (Finset.subset_univ _)) $$ Hx; iintro Hx
  rw [show View.readAt (Elt F) (Memref.whole cc0_stg0_0).view (Rect.unit (s := S4096x8) ![0, 0] S4096x8.size inb_S4096x8_S4096x8_0_0).toLoadRect x = x
    from ld_row cc0_stg0_0 zero2 inb_S4096x8_S4096x8_0_0 _]
  iapply (wp_load 𝒱₀ (c : Thread nD τ) none E (m := Memref.whole cc0_scratch3) (Finset.subset_univ _)) $$ H3; iintro H3
  iapply (wp_store 𝒱₀ (c : Thread nD τ) none E (m := Memref.whole cc0_scratch3) (r := rRow') (Mk := Finset.univ) (Finset.subset_univ _)) $$ H3; iintro H3
  rw [show View.write (Elt F) ((Memref.whole cc0_scratch3).access rRow') f3 _ Finset.univ = _ from st_row cc0_scratch3 zero2 inb_S1x4096_S1x4096_0_0 f3 _]
  iapply (Scf.wp_for_bind frame (wpE (defs₀ (F := F)) 𝒱₀ (c : Thread nD τ) none) E k0_t1_loop.lb k0_t1_loop.ub k0_t1_loop.st k0_t1_ok _ _
    (inv1 c x) (step1 c none E x)) $$ [Hx H3 H0 H1]
  · unfold inv1
    isplitl [Hx]; · iexact Hx
    isplitl [H3]; · iexact H3
    isplitl [H0]
    · iexists f0; isplitr
      · ipureintro; exact fun y hy => absurd hy (Nat.not_lt_zero _)
      iexact H0
    iexists f1; isplitr
    · ipureintro; exact fun y hy => absurd hy (Nat.not_lt_zero _)
    iexact H1
  iintro %acc Hinv
  unfold inv1; icases Hinv with ⟨Hx, H3, ⟨%fm, %hm, H0⟩, ⟨%fd, %hd, H1⟩⟩
  have h8 : 512 * k0_t1_loop.trips = 4096 := by rw [trips1]
  obtain rfl : fm = adjM x := funext fun y => hm y (Nat.lt_of_lt_of_eq (y 0).isLt h8.symm)
  obtain rfl : fd = degV x := funext fun y => hd y (Nat.lt_of_lt_of_eq (y 1).isLt h8.symm)
  iapply (wp_load 𝒱₀ (c : Thread nD τ) none E (m := Memref.whole cc0_scratch1) (Finset.subset_univ _)) $$ H1; iintro H1
  rw [show View.readAt (Elt F) (Memref.whole cc0_scratch1).view rRow (degV x) = degV x from ld_row cc0_scratch1 zero2 inb_S1x4096_S1x4096_0_0 _]
  iapply (wp_load 𝒱₀ (c : Thread nD τ) none E (m := Memref.whole cc0_scratch5) (Finset.subset_univ _)) $$ H5; iintro H5
  iapply (wp_store 𝒱₀ (c : Thread nD τ) none E (m := Memref.whole cc0_scratch5) (r := rRow') (Mk := Finset.univ) (Finset.subset_univ _)) $$ H5; iintro H5
  rw [show View.write (Elt F) ((Memref.whole cc0_scratch5).access rRow') f5 _ Finset.univ = _ from st_row cc0_scratch5 zero2 inb_S1x4096_S1x4096_0_0 f5 _]
  have hT : ∀ K, spec c (k0_pay12 (degV x)) (adjM x) 96 (ws0 x p) K
      ⊢ wp frame (wpE (defs₀ (F := F)) 𝒱₀ (c : Thread nD τ) (some 96)) E
        (defs₀ (F := F) .tc 1 ⟨k0_pay12 (degV x), Memref.whole cc0_scratch4, Memref.isWhole_whole _, Memref.whole cc0_scratch5, Memref.isWhole_whole _,
          Memref.whole cc0_scratch0, Memref.isWhole_whole _, Memref.whole cc0_scratch6, Memref.isWhole_whole _,
          Memref.whole cc0_scratch3, Memref.isWhole_whole _, k0_pay7 (F := F), Memref.whole cc0_scratch2, Memref.isWhole_whole _,
          k0_pay13 (degV x), 0#32, 0#1⟩) K :=
    spec_le' c E (k0_pay12 (degV x)) (adjM x) 96 le_rfl (ws0 x p) rfl _ _ _ rfl rfl rfl
  iapply (wp_call_spec 𝒱₀ (c : Thread nD τ) none E (spec c (k0_pay12 (degV x)) (adjM x) 96 (ws0 x p)) 96
    (fun u hu => nomatch hu) hT)
  rw [spec_apply, show WS.run (k0_pay12 (degV x)) (adjM x) 96 (ws0 x p) = wsEnd x p from rfl]
  isplitl [H0 H5 H6 H2 H3 H4]
  · unfold held
    isplitl [H0]; · iexact H0
    isplitl [H5]; · iexact H5
    isplitl [H6]; · iexact H6
    isplitl [H2]; · iexact H2
    isplitl [H3]; · iexists _; iexact H3
    iexact H4
  unfold held
  iintro ⟨H0, H5, H6, H2, ⟨%f3', H3⟩, H4⟩
  iapply (wp_load 𝒱₀ (c : Thread nD τ) none E (m := Memref.whole cc0_scratch6) (Finset.subset_univ _)) $$ H6; iintro H6
  rw [show View.readAt (Elt F) (Memref.whole cc0_scratch6).view (Rect.unit (s := S8x4096) ![0, 0] S8x4096.size inb_S8x4096_S8x4096_0_0).toLoadRect (wsEnd x p).part = (wsEnd x p).part
    from ld_row cc0_scratch6 zero2 inb_S8x4096_S8x4096_0_0 _]
  iapply (wp_load 𝒱₀ (c : Thread nD τ) none E (m := Memref.whole cc0_scratch3) (Finset.subset_univ _)) $$ H3; iintro H3
  iapply (wp_store 𝒱₀ (c : Thread nD τ) none E (m := Memref.whole cc0_scratch3) (r := rRow') (Mk := Finset.univ) (Finset.subset_univ _)) $$ H3; iintro H3
  rw [show View.write (Elt F) ((Memref.whole cc0_scratch3).access rRow') f3' _ Finset.univ = _ from st_row cc0_scratch3 zero2 inb_S1x4096_S1x4096_0_0 f3' _]
  rw [wp_ret]; imodintro
  iapply Hk
  isplitl [Hx]; · iexact Hx
  isplitl [H0]; · iexists _; iexact H0
  isplitl [H1]; · iexists _; iexact H1
  isplitl [H3]; · iexact H3
  isplitl [H2 H4 H5]
  · isplitl [H2]; · iexact H2
    isplitl [H4]; · iexact H4
    iexists _; iexact H5
  iexists _; iexact H6

/-- The body. -/
theorem body_wp (x : Vec F S4096x8 .f32) (p : Vec F S8x4096 .f32) (K : PUnit → sProp 𝕄) :
    iprop(iprop(pt c cc0_stg0_0 x ∗ (∃ f, pt (F := F) c cc0_stg1_0 f) ∗ (∃ f, pt (F := F) c cc0_scratch0 f) ∗ (∃ f, pt (F := F) c cc0_scratch1 f)
        ∗ (∃ f, pt (F := F) c cc0_scratch3 f) ∗ junk3 c ∗ pt c cc0_scratch6 p)
      ∗ (iprop(pt c cc0_stg0_0 x ∗ pt c cc0_stg1_0 (kOut x p) ∗ (∃ f, pt (F := F) c cc0_scratch0 f) ∗ (∃ f, pt (F := F) c cc0_scratch1 f)
        ∗ (∃ f, pt (F := F) c cc0_scratch3 f) ∗ junk3 c ∗ (∃ f, pt (F := F) c cc0_scratch6 f)) -∗ K ⟨⟩))
      ⊢ wp frame (wpE (defs₀ (F := F)) 𝒱₀ (c : Thread nD τ) none) E
        (cc0__dbscan_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _)) K := by
  simp only [cc0__dbscan_body_eq_skeleton]; unfold cc0__dbscan_body_skel
  rw [wp_bind]
  iintro ⟨⟨Hx, Ho, H0, H1, H3, HJ, H6⟩, Hk⟩
  iapply (part1_wp c E x p _)
  isplitl [Hx H0 H1 H3 HJ H6]
  · isplitl [Hx]; · iexact Hx
    isplitl [H0]; · iexact H0
    isplitl [H1]; · iexact H1
    isplitl [H3]; · iexact H3
    isplitl [HJ]; · iexact HJ
    iexact H6
  iintro ⟨Hx, H0, ⟨%f1, H1⟩, H3, HJ, H6⟩
  icases Ho with ⟨%fo, Ho⟩
  simp only [k0_part2_eq_skeleton]; unfold k0_part2_skel
  simp only [Prog.lift, Prog.bind_op, Prog.bind_ret, Prog.pure_eq_ret]
  iapply (wp_load 𝒱₀ (c : Thread nD τ) none E (m := Memref.whole cc0_scratch1) (Finset.subset_univ _)) $$ H1; iintro H1
  iapply (wp_store 𝒱₀ (c : Thread nD τ) none E (m := Memref.whole cc0_scratch1) (r := rRow') (Mk := Finset.univ) (Finset.subset_univ _)) $$ H1; iintro H1
  rw [show View.write (Elt F) ((Memref.whole cc0_scratch1).access rRow') f1
      (k0_pay1 (k0_pay17 (k0_pay16 (degV x) (wsEnd x p).lab)) (k0_pay18 (k0_pay16 (degV x) (wsEnd x p).lab))) Finset.univ = cidV x p from st_row cc0_scratch1 zero2 inb_S1x4096_S1x4096_0_0 f1 _]
  iapply (Scf.wp_for_bind frame (wpE (defs₀ (F := F)) 𝒱₀ (c : Thread nD τ) none) E k0_t4_loop.lb k0_t4_loop.ub k0_t4_loop.st k0_t4_ok _ _
    (inv4 c (rootV x p) (cidV x p)) (step4 c none E (rootV x p) (cidV x p))) $$ [H3 H1 Ho]
  · unfold inv4
    isplitl [H3]; · iexact H3
    isplitl [H1]; · iexact H1
    iexists fo; isplitr
    · ipureintro; exact fun y hy => absurd hy (Nat.not_lt_zero _)
    iexact Ho
  iintro %acc Hinv
  unfold inv4; icases Hinv with ⟨H3, H1, ⟨%fl, %hl, Ho⟩⟩
  have h8 : 512 * k0_t4_loop.trips = 4096 := by rw [trips4]
  obtain rfl : fl = lookV (rootV x p) (cidV x p) := funext fun y => hl y (Nat.lt_of_lt_of_eq (y 1).isLt h8.symm)
  iapply (wp_load 𝒱₀ (c : Thread nD τ) none E (m := Memref.whole cc0_scratch3) (Finset.subset_univ _)) $$ H3; iintro H3
  rw [show View.readAt (Elt F) (Memref.whole cc0_scratch3).view rRow (rootV x p) = rootV x p from ld_row cc0_scratch3 zero2 inb_S1x4096_S1x4096_0_0 _]
  iapply (wp_load 𝒱₀ (c : Thread nD τ) none E (m := Memref.whole cc0_stg1_0) (Finset.subset_univ _)) $$ Ho; iintro Ho
  rw [show View.readAt (Elt F) (Memref.whole cc0_stg1_0).view rRow (lookV (rootV x p) (cidV x p)) = lookV (rootV x p) (cidV x p)
    from ld_row cc0_stg1_0 zero2 inb_S1x4096_S1x4096_0_0 _]
  iapply (wp_load 𝒱₀ (c : Thread nD τ) none E (m := Memref.whole cc0_stg1_0) (Finset.subset_univ _)) $$ Ho; iintro Ho
  iapply (wp_store 𝒱₀ (c : Thread nD τ) none E (m := Memref.whole cc0_stg1_0) (r := rRow') (Mk := Finset.univ) (Finset.subset_univ _)) $$ Ho; iintro Ho
  rw [show View.write (Elt F) ((Memref.whole cc0_stg1_0).access rRow') (lookV (rootV x p) (cidV x p))
      (k0_pay3 (rootV x p) (lookV (rootV x p) (cidV x p))) Finset.univ = kOut x p
    from st_row cc0_stg1_0 zero2 inb_S1x4096_S1x4096_0_0 _ _]
  rw [wp_ret]; imodintro
  iapply Hk
  isplitl [Hx]; · iexact Hx
  isplitl [Ho]; · iexact Ho
  isplitl [H0]; · iexact H0
  isplitl [H1]; · iexists _; iexact H1
  isplitl [H3]; · iexists _; iexact H3
  isplitl [HJ]; · iexact HJ
  iexact H6

end Cert.Proof.KI

end
-- ==== Proof.KI.Run.lean ====
/-
  The launch: the kernel's body as the pipeline calls it (`sound`), the host line after the region, and the run of the
  whole program — with the result array left open (`run_frame`), and with it at one value when the body's result does not
  depend on what the partial minima's buffer held (`run_value`).
-/
module

public import proofs.«01_k».proof.Proof.KI.Body
public import proofs.«01_k».proof.Proof.Gen.KernelIdeal.Launch
public import proofs.«01_k».proof.Proof.Gen.KernelIdeal.Points
public import Idealize.ShloMosaic.Lib.Pipeline.FrameSuffix
public import Idealize.ShloMosaic.Lib.StableHlo.RunRead
public import Idealize.ShloMosaic.Lib.Pipeline.ValueKit

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The host line after the region -/

/-- The buffers when the region is entered: as launched. -/
abbrev V0 (c : Dev nD) : Valuation τ sig (Elt F) := StableHlo.after (List.flatten []) (fun b => m (c, b))

/-- The program around the region. -/
theorem hmain (𝒱 : Variants) : Pipeline.HMainK (Ix := Unit) (Name := ℕ) (U := UR sig nD τ) (Lvl := ℕ) cfgs (0 : Fin 1) defs₀ 𝒱 m (main (F := F))
    (fun c b => V0 m c (Proc.devRef .tc b)) (fun _ => Pipeline.chain ([hostOps1].map StableHlo.seq)) :=
  Pipeline.hmain_around cfgs (0 : Fin 1) defs₀ 𝒱 m main [] [hostOps1] (by simp only [List.Forall]) (by simp only [List.Forall]) main_chain

/-- The line touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts0.arr_unscoped]
  intro ops hops op hop
  simp only [List.mem_cons, List.mem_nil_iff, or_false] at hops
  subst hops
  exact Pipeline.sub_ucRefs op ((List.forall_iff_forall_mem.mp hostOps1_sub) op hop)

/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  subst hop
  rfl

/-- writes no array of the region, -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-- and writes the reshaped result only. -/
theorem sfx_writes : ∀ ops ∈ ([hostOps1] : List (List (HloOp τ sig (Elt F)))), ∀ op ∈ ops,
    ∀ b : Ref sig .tc, Proc.devRef .tc b ∈ op.writes → b ∈ ({main_v1} : Finset (Ref sig .tc)) := by
  intro ops hops op hop
  simp only [List.mem_cons, List.mem_nil_iff, or_false] at hops
  subst hops
  simp only [hostOps1, List.mem_cons, List.mem_nil_iff, or_false] at hop
  subst hop
  intro b hb
  simp only [StableHlo.reshape_writes, Finset.mem_singleton] at hb
  exact Finset.mem_singleton.mpr (Proc.devRef_injective _ hb)

/-! ### The body as the pipeline calls it -/

/-- The points as fetched into their staging buffer. -/
def xin (c : Dev nD) : Vec F S4096x8 .f32 :=
  (win0_0.blk (t0_0)).view.read (Elt F) (m ((c : Thread nD τ).loc main_arg0))

/-- The proof data: the arrays as launched, the points as fetched, the result at `out`. -/
def dats (out : Dev nD → Vec F S1x4096 .i32) (_ : Fin 1) (c : Dev nD) : Dat τ (Elt F) Unit ℕ (UR sig nD τ) ℕ (cfg0 (F := F)) c where
  A w := V0 m c (Proc.devRef .tc (Pipeline.arrRef spec0 w))
  after w _ := match w with
    | ⟨0, _⟩ => xin m c
    | ⟨1, _⟩ => out c
  Φ _ := Pipeline.ΦA spec0 c
  q _ := fullShare
  owed _ := 0

/-- A whole buffer owned through its memref is owned with some contents that read so. -/
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- The body, from the scratch buffers at anything. -/
theorem sound (c : Dev nD) (x : Vec F S4096x8 .f32) (K : PUnit → sProp 𝕄) :
    iprop(iprop(Pipeline.ΦA spec0 c ∗ pt c cc0_stg0_0 x ∗ (∃ f, pt (F := F) c cc0_stg1_0 f))
        ∗ (iprop(Pipeline.ΦA spec0 c ∗ pt c cc0_stg0_0 x ∗ (∃ p, pt (F := F) c cc0_stg1_0 (kOut x p))) -∗ K ⟨⟩))
      ⊢ wp frame (wpE (defs₀ (F := F)) 𝒱₀ (c : Thread nD τ) none) Set.univ
        (cc0__dbscan_body (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _)) K := by
  unfold Pipeline.ΦA
  rw [scopedRest0_eq]
  iintro ⟨⟨⟨⟨H0, H1, H2, H3, H4, H5, ⟨%p, H6⟩⟩, Hr⟩, Hx, Ho⟩, Hk⟩
  iapply (body_wp c Set.univ x p K)
  isplitr [Hk Hr]
  · isplitl [Hx]; · iexact Hx
    isplitl [Ho]; · iexact Ho
    isplitl [H0]; · iexact H0
    isplitl [H1]; · iexact H1
    isplitl [H3]; · iexact H3
    isplitr [H6]
    · unfold junk3
      isplitl [H2]; · iexact H2
      isplitl [H4]; · iexact H4
      iexact H5
    iexact H6
  unfold junk3
  iintro ⟨Hx, Ho, H0, H1, H3, ⟨H2, H4, H5⟩, H6⟩
  iapply Hk
  isplitl [Hr H0 H1 H2 H3 H4 H5 H6]
  · isplitr [Hr]
    · isplitl [H0]; · iexact H0
      isplitl [H1]; · iexact H1
      isplitl [H2]; · iexact H2
      isplitl [H3]; · iexact H3
      isplitl [H4]; · iexact H4
      isplitl [H5]; · iexact H5
      iexact H6
    iexact Hr
  isplitl [Hx]; · iexact Hx
  iexists p; iexact Ho

/-- The points' window holds the points as fetched. -/
theorem before_in (out : Dev nD → Vec F S1x4096 .i32) (c : Dev nD) (d) : (dats m out 0 c).before (0 : Fin 2) t0_0 d = xin m c := by
  unfold Dat.before
  exact (if_pos (fetch0_0 (F := F) t0_0)).trans rfl

/-- Which windows are left open: the result's. -/
def fgt : Fin 2 → Bool := fun | 0 => false | 1 => true

/-- The body's obligation with the result left open. -/
theorem body_open (out : Dev nD → Vec F S1x4096 .i32) (c : Dev nD) :
    BodyObligation (dats m out 0 c) (defs₀ (F := F)) 𝒱₀ () Set.univ fgt := fun t => by
  rw [fin_N0 t]
  rw [bigSep_W0, bigSep_W0]
  sl_whnfR [defs₀, Defs.onTc]
  simp only [owns_whole_eq, fgt]
  simp only [show stage0_0 0 = Memref.whole cc0_stg0_0 from rfl, show stage0_1 0 = Memref.whole cc0_stg1_0 from rfl]
  rw [show (dats m out 0 c).Φ t0_0.castSucc = Pipeline.ΦA spec0 c from rfl,
    show (dats m out 0 c).Φ t0_0.succ = Pipeline.ΦA spec0 c from rfl]
  iintro ⟨HΦ, Howes, ⟨%d, %f, %hf, Hx⟩, ⟨%X, %fo, -, Ho⟩⟩
  have hx : f = xin m c := hf.trans (before_in m out c d)
  subst hx
  iapply (sound c (xin m c) _)
  isplitl [HΦ Hx Ho]
  · isplitl [HΦ]; · iexact HΦ
    isplitl [Hx]; · iexact Hx
    iexists fo; iexact Ho
  iintro ⟨HΦ, Hx, ⟨%p, Ho⟩⟩
  isplitl [HΦ]; · iexact HΦ
  isplitl [Howes]; · iexact Howes
  isplitl [Hx]
  · iexists (xin m c); isplitr; · ipureintro; rfl
    iexact Hx
  iexists (kOut (xin m c) p); iexists (kOut (xin m c) p); isplitr; · ipureintro; rfl
  iexact Ho

/-- The body's obligation at one result, when the result does not depend on the partial minima's buffer. -/
theorem body_exact (out : Dev nD → Vec F S1x4096 .i32) (c : Dev nD) (hout : ∀ p, kOut (xin m c) p = out c) :
    BodyObligation (dats m out 0 c) (defs₀ (F := F)) 𝒱₀ () Set.univ := fun t => by
  rw [fin_N0 t]
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl]
  rw [show (dats m out 0 c).Φ t0_0.castSucc = Pipeline.ΦA spec0 c from rfl,
    show (dats m out 0 c).Φ t0_0.succ = Pipeline.ΦA spec0 c from rfl]
  iintro ⟨HΦ, Howes, ⟨%d, %f, %hf, Hx⟩, ⟨%X, %fo, -, Ho⟩⟩
  have hx : f = xin m c := hf.trans (before_in m out c d)
  subst hx
  iapply (sound c (xin m c) _)
  isplitl [HΦ Hx Ho]
  · isplitl [HΦ]; · iexact HΦ
    isplitl [Hx]; · iexact Hx
    iexists fo; iexact Ho
  iintro ⟨HΦ, Hx, ⟨%p, Ho⟩⟩
  rw [hout p]
  isplitl [HΦ]; · iexact HΦ
  isplitl [Howes]; · iexact Howes
  isplitl [Hx]
  · iexists (xin m c); isplitr; · ipureintro; rfl
    iexact Hx
  iexists (out c); isplitr; · ipureintro; rfl
  iexact Ho

/-! ### The run -/

/-- The arrays at the region's entry are as launched. -/
theorem V0_eq (c : Dev nD) (b : Ref sig .tc) : V0 m c (Proc.devRef .tc b) = m ((c : Thread nD τ).loc b) := rfl

/-- The program ends with its argument unchanged and its semaphores at rest. -/
theorem run_frame :
    θ_run (Cert.KernelIdeal.defs (F := F)) (onTc (τ := τ) (main (F := F))) ⟨m, fun _ => 0, ρ⟩
      (fun r => (∀ c : Dev nD, r.2.mem ((c.tc : Thread nD τ).loc main_arg0) = m ((c.tc : Thread nD τ).loc main_arg0))
        ∧ r.2.sem = fun _ => 0) :=
  Pipeline.θ_run_frame_around_T_forget cfgs (dats m (fun _ => fun _ => default)) (0 : Fin 1) launch0 defs₀ 𝒱₀ fgt {main_v1} m ρ main
    (hbody := fun c => (body_open m _ c).loose) (hshare := fun c => (dats m _ 0 c).share_full fun _ => rfl)
    (howed := fun _ _ => rfl) (V₀ := V0 m) (opss := [hostOps1]) (hsub := sfx_sub) (hfresh := sfx_fresh) (hkeep := sfx_keeps)
    (hT := sfx_writes) (hmain := hmain m 𝒱₀) (hA := fun _ _ => rfl) (hΦ := fun _ _ => rfl)
    (Q' := _) (hQ' := fun r h => ⟨fun c => Pipeline.RDat.FramePostR.arr_in h.1 c (0 : Fin 2) rfl, h.2⟩)

/-- The result array after the region. -/
theorem arr_out (out : Dev nD → Vec F S1x4096 .i32) (c : Dev nD) :
    (dats m out 0 c).arrAt (1 : Fin 2) (cfg0 (F := F)).N = out c :=
  (dats m out 0 c).arrAt_eq_of_after_last (1 : Fin 2) t0_0 (by decide +kernel : win0_1.WholeAt t0_0) (out c) fun j => rfl

/-- The whole window of the points is the array. -/
theorem xin_eq (c : Dev nD) : xin m c = m ((c.tc : Thread nD τ).loc main_arg0) := by
  funext i
  show m ((c.tc : Thread nD τ).loc main_arg0) ((win0_0.rect t0_0).emb i) = _
  refine congrArg (m ((c.tc : Thread nD τ).loc main_arg0)) (funext fun a => Fin.ext ?_)
  exact Pipeline.Window.rect_emb_val_of_index_zero _ _ _ ((by decide : ∀ a, win0_0.index t0_0 a = 0) a) _

/-- The reshaped result after the host line. -/
theorem tail_out (out : Dev nD → Vec F S1x4096 .i32) (c : Dev nD) :
    Pipeline.afterTail₀ cfgs (dats m out) (0 : Fin 1) (V0 m) [hostOps1] c main_v1
      = (shapeCast S4096 (out c) shapeCasts_S1x4096_S4096 : Vec F S4096 .i32) := by
  unfold Pipeline.afterTail₀
  have h : Pipeline.withArrays (cfgs (F := F) 0).spec c (V0 m c) (fun w => (dats m out 0 c).arrAt w (cfgs (F := F) 0).N) (Proc.devRef .tc main_v0) = out c :=
    (Pipeline.withArrays_arr (cfgs (F := F) 0).spec winFacts0.arr_inj c (V0 m c) _ (1 : Fin 2)).trans (arr_out m out c)
  revert h
  generalize Pipeline.withArrays (cfgs (F := F) 0).spec c (V0 m c) (fun w => (dats m out 0 c).arrAt w (cfgs (F := F) 0).N) = W
  intro h
  show StableHlo.after hostOps1 W _ = _
  after_reads_simp
  rw [h]
  rfl

/-- When the body's result does not depend on what the partial minima's buffer held, the program ends with its result at the
    body's, as one row of labels, and its argument unchanged. -/
theorem run_value (out : Dev nD → Vec F S1x4096 .i32) (hout : ∀ c p, kOut (xin m c) p = out c) :
    θ_run (Cert.KernelIdeal.defs (F := F)) (onTc (τ := τ) (main (F := F))) ⟨m, fun _ => 0, ρ⟩
      (fun r => ∀ c : Dev nD, r.2.mem ((c.tc : Thread nD τ).loc main_v1) = (shapeCast S4096 (out c) shapeCasts_S1x4096_S4096 : Vec F S4096 .i32)
        ∧ r.2.mem ((c.tc : Thread nD τ).loc main_arg0) = m ((c.tc : Thread nD τ).loc main_arg0)) :=
  Pipeline.θ_run_frame_around cfgs (dats m out) (0 : Fin 1) launch0 defs₀ 𝒱₀ m ρ main
    (hbody := fun c => (body_exact m out c (hout c)).loose) (hshare := fun c => (dats m out 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)
    (Q' := _) (hQ' := fun r h c => ⟨by
        refine (h.1.rest_eq c main_v1 (by decide : main_v1 ∈ Pipeline.restRefs sig spec0)).trans ?_
        exact tail_out m out c,
      h.1.in_eq c (0 : Fin 2) rfl⟩)

end Cert.Proof.KI

end
-- ==== Proof.Math.Graph.lean ====
/-
  Labels on a graph: the rounds that lower every core point's label to the least label among its core neighbours, the
  jumps that replace a label by its label, and what both come to once the plain rounds have reached a fixed point.
  Nothing here knows of the programs.
-/
module

public import Idealize.ShloMosaic.Lib.Pointwise

@[expose] public section

noncomputable section

namespace Cert.Proof.Math

open Classical

variable {n : ℕ} (A : Fin n → Fin n → Prop) (core : Fin n → Prop)

/-- The least label among a point's core neighbours, `n` when it has none. -/
def nbr (ℓ : Fin n → ℕ) (v : Fin n) : ℕ :=
  (Finset.univ : Finset (Fin n)).fold min n fun j => if A v j ∧ core j then ℓ j else n

/-- One round: a core point takes the least label among its own and its core neighbours'. -/
def hook (ℓ : Fin n → ℕ) (v : Fin n) : ℕ := if core v then min (ℓ v) (nbr A core ℓ v) else ℓ v

/-- The label standing at a label, `n` at `n`. -/
def look (ℓ : Fin n → ℕ) (k : ℕ) : ℕ := if h : k < n then ℓ ⟨k, h⟩ else n

/-- One jump: a label is lowered to the label standing at it. -/
def jump (ℓ : Fin n → ℕ) (v : Fin n) : ℕ := min (ℓ v) (look ℓ (ℓ v))

/-- The starting labels: a core point's own index, `n` elsewhere. -/
def start (v : Fin n) : ℕ := if core v then v.val else n

/-- The labels after so many plain rounds. -/
def plain : ℕ → Fin n → ℕ
  | 0 => start core
  | k + 1 => hook A core (plain k)

/-- Every point's representative: a core point's label, else the least core neighbour's. -/
def root (ℓ : Fin n → ℕ) (v : Fin n) : ℕ := if core v then ℓ v else nbr A core ℓ v

/-- How many points up to `k` are their own representatives. -/
def cnt (ℓ : Fin n → ℕ) (k : ℕ) : ℕ := (Finset.univ.filter fun j : Fin n => j.val ≤ k ∧ core j ∧ ℓ j = j.val).card

/-- The final label: the number of the representative among the representatives, −1 for noise. -/
def label (ℓ : Fin n → ℕ) (v : Fin n) : ℤ :=
  if root A core ℓ v < n then (cnt core ℓ (root A core ℓ v) : ℤ) - 1 else -1

/-! ### The least label among the neighbours -/

/-- It is at most `n`, -/
theorem nbr_le_n (ℓ : Fin n → ℕ) (v : Fin n) : nbr A core ℓ v ≤ n := (Finset.fold_min_le _).mpr (.inl le_rfl)

/-- and at most every core neighbour's label. -/
theorem nbr_le (ℓ : Fin n → ℕ) {v j : Fin n} (h : A v j) (hj : core j) : nbr A core ℓ v ≤ ℓ j :=
  (Finset.fold_min_le _).mpr (.inr ⟨j, Finset.mem_univ _, by rw [if_pos ⟨h, hj⟩]⟩)

/-- Whatever is at most `n` and at most every core neighbour's label is at most it. -/
theorem le_nbr (ℓ : Fin n → ℕ) {v : Fin n} {c : ℕ} (hn : c ≤ n) (h : ∀ j, A v j → core j → c ≤ ℓ j) : c ≤ nbr A core ℓ v :=
  (Finset.le_fold_min _).mpr ⟨hn, fun j _ => by
    split
    · next h' => exact h j h'.1 h'.2
    · exact hn⟩

/-- It is `n` or some core neighbour's label. -/
theorem nbr_mem (ℓ : Fin n → ℕ) (v : Fin n) : nbr A core ℓ v = n ∨ ∃ j, A v j ∧ core j ∧ nbr A core ℓ v = ℓ j := by
  rcases (Finset.fold_min_le (nbr A core ℓ v)).mp (le_refl (nbr A core ℓ v)) with h | ⟨j, _, h⟩
  · exact .inl (le_antisymm (nbr_le_n A core ℓ v) h)
  · by_cases h' : A v j ∧ core j
    · rw [if_pos h'] at h
      exact .inr ⟨j, h'.1, h'.2, le_antisymm (nbr_le A core ℓ h'.1 h'.2) h⟩
    · rw [if_neg h'] at h
      exact .inl (le_antisymm (nbr_le_n A core ℓ v) h)

/-- A round keeps the order of labellings, -/
theorem hook_mono {ℓ ℓ' : Fin n → ℕ} (h : ∀ v, ℓ v ≤ ℓ' v) (v : Fin n) : hook A core ℓ v ≤ hook A core ℓ' v := by
  unfold hook
  split
  · refine min_le_min (h v) (le_nbr A core ℓ' (nbr_le_n A core ℓ v) fun j hj hc => ?_)
    exact le_trans (nbr_le A core ℓ hj hc) (h j)
  · exact h v

/-- and lowers labels, -/
theorem hook_le (ℓ : Fin n → ℕ) (v : Fin n) : hook A core ℓ v ≤ ℓ v := by
  unfold hook; split
  · exact min_le_left _ _
  · exact le_rfl

/-- as a jump does. -/
theorem jump_le (ℓ : Fin n → ℕ) (v : Fin n) : jump ℓ v ≤ ℓ v := min_le_left _ _

/-! ### Labellings on the way to a fixed point -/

variable (L : Fin n → ℕ)

/-- A labelling that gives every core point a core point of its own cluster, the clusters being told apart by `L`. -/
def Good (ℓ : Fin n → ℕ) : Prop :=
  (∀ v, core v → ∃ u : Fin n, core u ∧ ℓ v = u.val ∧ L u = L v) ∧ ∀ v, ¬ core v → ℓ v = n

/-- The starting labels do. -/
theorem good_start : Good core L (start core) :=
  ⟨fun v hv => ⟨v, hv, by unfold start; rw [if_pos hv], rfl⟩, fun v hv => by unfold start; rw [if_neg hv]⟩

variable {L}

/-- A fixed point of the round is constant along core neighbours. -/
theorem const_of_fixed (hA : ∀ u v, A u v → A v u) (hL : hook A core L = L) {u v : Fin n} (h : A u v) (hu : core u) (hv : core v) :
    L u = L v := by
  have key : ∀ {u v : Fin n}, A u v → core u → core v → L u ≤ L v := fun {u v} h hu hv => by
    have := congrFun hL u
    unfold hook at this
    rw [if_pos hu] at this
    rw [← this]
    exact le_trans (min_le_right _ _) (nbr_le A core L h hv)
  exact le_antisymm (key h hu hv) (key (hA _ _ h) hv hu)

/-- A round keeps good labellings good, -/
theorem good_hook (hA : ∀ u v, A u v → A v u) (hL : hook A core L = L) {ℓ : Fin n → ℕ} (h : Good core L ℓ) : Good core L (hook A core ℓ) := by
  refine ⟨fun v hv => ?_, fun v hv => by unfold hook; rw [if_neg hv]; exact h.2 v hv⟩
  unfold hook
  rw [if_pos hv]
  obtain ⟨u, hu, e, eL⟩ := h.1 v hv
  rcases min_choice (ℓ v) (nbr A core ℓ v) with hm | hm
  · rw [hm]; exact ⟨u, hu, e, eL⟩
  · rcases nbr_mem A core ℓ v with hn | ⟨j, hj, hc, hn⟩
    · have : nbr A core ℓ v ≤ ℓ v := by rw [← hm]; exact min_le_left _ _
      have := u.isLt; omega
    · rw [hm, hn]
      obtain ⟨w, hw, e', eL'⟩ := h.1 j hc
      exact ⟨w, hw, e', eL'.trans (const_of_fixed A core hA hL hj hv hc).symm⟩

/-- and so does a jump. -/
theorem good_jump {ℓ : Fin n → ℕ} (h : Good core L ℓ) : Good core L (jump ℓ) := by
  refine ⟨fun v hv => ?_, fun v hv => ?_⟩
  · obtain ⟨u, hu, e, eL⟩ := h.1 v hv
    have hlook : look ℓ (ℓ v) = ℓ u := by unfold look; rw [dif_pos (by rw [e]; exact u.isLt)]; congr 1; exact Fin.ext e
    unfold jump
    rw [hlook]
    rcases min_choice (ℓ v) (ℓ u) with hm | hm
    · rw [hm]; exact ⟨u, hu, e, eL⟩
    · rw [hm]
      obtain ⟨w, hw, e', eL'⟩ := h.1 u hu
      exact ⟨w, hw, e', eL'.trans eL⟩
  · unfold jump look
    rw [h.2 v hv, dif_neg (lt_irrefl n), min_self]

/-- Labels of a good labelling are at most `n`. -/
theorem good_le_n {ℓ : Fin n → ℕ} (h : Good core L ℓ) (v : Fin n) : ℓ v ≤ n := by
  by_cases hv : core v
  · obtain ⟨u, _, e, _⟩ := h.1 v hv
    have := u.isLt; omega
  · exact (h.2 v hv).le

/-- The plain rounds never raise a label above the starting one. -/
theorem plain_le_start (k : ℕ) (v : Fin n) : plain A core k v ≤ start core v := by
  induction k with
  | zero => exact le_rfl
  | succ k ih => exact le_trans (hook_le A core _ v) ih

section Fixed

variable (H : ℕ) (hA : ∀ u v, A u v → A v u) (hH : hook A core (plain A core H) = plain A core H)
include hA hH

/-- The fixed point reached is at most every good labelling. -/
theorem plain_le_good {ℓ : Fin n → ℕ} (h : Good core (plain A core H) ℓ) (v : Fin n) : plain A core H v ≤ ℓ v := by
  by_cases hv : core v
  · obtain ⟨u, hu, e, eL⟩ := h.1 v hv
    rw [← eL, e]
    refine le_trans (plain_le_start A core H u) ?_
    unfold start; rw [if_pos hu]
  · rw [h.2 v hv]
    refine le_trans (plain_le_start A core H v) ?_
    unfold start; rw [if_neg hv]

omit hA in
/-- From the fixed point on the plain rounds stand still. -/
theorem plain_after (k : ℕ) : plain A core (H + k) = plain A core H := by
  induction k with
  | zero => rfl
  | succ k ih => exact (congrArg (hook A core) ih).trans hH

/-- What `k` rounds, with jumps or without, keep: a good labelling at most the plain one. -/
def Inv (k : ℕ) (ℓ : Fin n → ℕ) : Prop := Good core (plain A core H) ℓ ∧ ∀ v, ℓ v ≤ plain A core k v

omit hA hH in
/-- It holds at the start, -/
theorem inv_start : Inv A core H 0 (start core) := ⟨good_start core _, fun _ => le_rfl⟩

/-- after a round, -/
theorem inv_hook {k : ℕ} {ℓ : Fin n → ℕ} (h : Inv A core H k ℓ) : Inv A core H (k + 1) (hook A core ℓ) :=
  ⟨good_hook A core hA hH h.1, fun v => hook_mono A core h.2 v⟩

/-- and after a round and a jump. -/
theorem inv_jump {k : ℕ} {ℓ : Fin n → ℕ} (h : Inv A core H k ℓ) : Inv A core H (k + 1) (jump (hook A core ℓ)) :=
  ⟨good_jump core (inv_hook A core H hA hH h).1, fun v => le_trans (jump_le _ v) ((inv_hook A core H hA hH h).2 v)⟩

/-- From round `H` on the labels are the fixed point's. -/
theorem inv_eq {k : ℕ} {ℓ : Fin n → ℕ} (h : Inv A core H k ℓ) (hk : H ≤ k) : ℓ = plain A core H := by
  obtain ⟨d, rfl⟩ := Nat.exists_eq_add_of_le hk
  funext v
  refine le_antisymm ?_ (plain_le_good A core H hA hH h.1 v)
  rw [← congrFun (plain_after A core H hH d) v]
  exact h.2 v

/-- A labelling on the way that a round leaves alone is the fixed point already. -/
theorem inv_fixed {k : ℕ} {ℓ : Fin n → ℕ} (h : Inv A core H k ℓ) (hf : hook A core ℓ = ℓ) : ℓ = plain A core H := by
  funext v
  refine le_antisymm ?_ (plain_le_good A core H hA hH h.1 v)
  have key : ∀ m v, ℓ v ≤ plain A core m v := by
    intro m
    induction m with
    | zero => exact fun v => le_trans (h.2 v) (plain_le_start A core k v)
    | succ m ih => intro v; rw [← congrFun hf v]; exact hook_mono A core ih v
  exact key H v

/-- The fixed point is good, -/
theorem good_plain : Good core (plain A core H) (plain A core H) := by
  have : ∀ k, Inv A core H k (plain A core k) := by
    intro k
    induction k with
    | zero => exact inv_start A core H
    | succ k ih => exact inv_hook A core H hA hH ih
  exact (this H).1

/-- and a jump leaves it alone. -/
theorem jump_plain : jump (plain A core H) = plain A core H := by
  funext v
  exact le_antisymm (jump_le _ v) (plain_le_good A core H hA hH (good_jump core (good_plain A core H hA hH)) v)

end Fixed

end Cert.Proof.Math

end
-- ==== Proof.Math.Near.lean ====
/-
  The graph on the points: which pairs lie within the radius, which points are core points; and facts about least
  elements and counts over the extended reals that the readings of the kernel use.
-/
module

public import proofs.«01_k».proof.Proof.Math.Graph

@[expose] public section

noncomputable section

namespace Cert.Proof.Math

open Idealize.ShloMosaic
open Classical

/-! ### The graph -/

/-- The squared length of a point. -/
def sqLen (x : (⟨2, ![4096, 8]⟩ : Shape).Idx → EReal) (i : Fin 4096) : EReal := ∑ k, x (ix2 i k) * x (ix2 i k)

/-- The inner product of two points. -/
def inner (x : (⟨2, ![4096, 8]⟩ : Shape).Idx → EReal) (i j : Fin 4096) : EReal := ∑ k, x (ix2 i k) * x (ix2 j k)

/-- The radius, squared. -/
def radius : EReal := Ideal.ofBits .f32 0x4023D70A#32

/-- Two points lie within the radius of each other. -/
def near (x : (⟨2, ![4096, 8]⟩ : Shape).Idx → EReal) (i j : Fin 4096) : Prop :=
  sqLen x i + sqLen x j - Ideal.ofBits .f32 0x40000000#32 * inner x i j ≤ radius

/-- That is mutual. -/
theorem near_symm (x : (⟨2, ![4096, 8]⟩ : Shape).Idx → EReal) (i j : Fin 4096) (h : near x i j) : near x j i := by
  unfold near at *
  rw [add_comm, show inner x j i = inner x i j from Finset.sum_congr rfl fun k _ => mul_comm _ _]
  exact h

/-- The squared radius is not negative. -/
theorem radius_nonneg : 0 ≤ radius := by
  unfold radius
  rw [show Ideal.ofBits .f32 0x4023D70A#32 = ((10737418 * (2 : ℝ) ^ (-22 : ℤ) : ℝ) : EReal) by
    simp [Ideal.ofBits, Ideal.ieee, -EReal.coe_mul]]
  exact EReal.coe_nonneg.mpr (by positivity)

/-- A core point has at least five points within the radius, itself among them. -/
def isCore (x : (⟨2, ![4096, 8]⟩ : Shape).Idx → EReal) (i : Fin 4096) : Prop := 5 ≤ (Finset.univ.filter fun j => near x i j).card

/-! ### Mask bits -/

/-- A truth value as a mask bit. -/
abbrev bit (p : Prop) : BitVec 1 := if p then 1#1 else 0#1

/-- Choosing by a mask bit. -/
theorem select_bit {α : Type} (p : Prop) (a b : α) : Scalar.select (bit p) a b = if p then a else b := by
  by_cases h : p
  · rw [if_pos h, show bit p = 1#1 from if_pos h]; rfl
  · rw [if_neg h, show bit p = 0#1 from if_neg h]; rfl

/-- A comparison's bit. -/
theorem ofBool_bit {p q : Prop} [Decidable p] (h : p ↔ q) : BitVec.ofBool (decide p) = bit q := by
  by_cases hp : p
  · rw [decide_eq_true hp, show bit q = 1#1 from if_pos (h.mp hp)]; rfl
  · rw [decide_eq_false hp, show bit q = 0#1 from if_neg fun hq => hp (h.mpr hq)]; rfl

/-! ### Constants -/

/-- A whole number as an extended real. -/
abbrev num (k : ℕ) : EReal := ((k : ℝ) : EReal)

/-- Whole numbers compare as they do. -/
theorem num_le {a b : ℕ} : num a ≤ num b ↔ a ≤ b := by rw [EReal.coe_le_coe_iff, Nat.cast_le]
/-- Whole numbers are equal when they are. -/
theorem num_inj {a b : ℕ} : num a = num b ↔ a = b := by rw [EReal.coe_eq_coe_iff, Nat.cast_inj]
/-- The lesser of two whole numbers. -/
theorem num_min (a b : ℕ) : min (num a) (num b) = num (min a b) := by
  rcases le_total a b with h | h
  · rw [min_eq_left h, min_eq_left (num_le.mpr h)]
  · rw [min_eq_right h, min_eq_right (num_le.mpr h)]

/-- The constant 4096. -/
theorem bits_4096 : Ideal.ofBits .f32 1166016512#32 = num 4096 := by
  rw [show num 4096 = ((4096 : ℝ) : EReal) from congrArg _ (by norm_num)]
  simp [Ideal.ofBits, Ideal.ieee, -EReal.coe_mul]; norm_num
/-- The constant 5. -/
theorem bits_5 : Ideal.ofBits .f32 1084227584#32 = num 5 := by
  rw [show num 5 = ((5 : ℝ) : EReal) from congrArg _ (by norm_num)]
  simp [Ideal.ofBits, Ideal.ieee, -EReal.coe_mul]; norm_num
/-- The greatest element. -/
theorem bits_top : Ideal.ofBits .f32 2139095040#32 = ⊤ := by
  simp [Ideal.ofBits, Ideal.ieee]
/-- The least element. -/
theorem bits_bot : Ideal.ofBits .f32 4286578688#32 = ⊥ := by
  simp [Ideal.ofBits, Ideal.ieee]

/-- An index word as an extended real. -/
theorem word_num (k : Fin 4096) : FloatOps.sitofp (F := Ideal) .f32 (BitVec.ofNat 32 k.val) = num k.val := by
  show (((BitVec.ofNat 32 k.val).toInt : ℝ) : EReal) = _
  have : (BitVec.ofNat 32 k.val).toInt = (k.val : ℤ) := by
    have := k.isLt
    rw [BitVec.toInt_eq_toNat_of_lt] <;> simp only [BitVec.toNat_ofNat] <;> omega
  rw [this]; norm_cast

/-! ### Least elements -/

/-- The least element over a nonempty range, from a bound attained. -/
theorem fold_min_eq {ι : Type} [Fintype ι] (g : ι → EReal) (c : EReal) (hle : ∀ j, c ≤ g j) (j : ι) (hj : g j = c) :
    (Finset.univ : Finset ι).fold min ⊤ g = c :=
  le_antisymm ((Finset.fold_min_le _).mpr (.inr ⟨j, Finset.mem_univ _, hj.le⟩)) ((Finset.le_fold_min _).mpr ⟨le_top, fun j _ => hle j⟩)

/-- The greatest of flags that are 1 where a condition holds and 0 elsewhere. -/
theorem fold_max_flag {ι : Type} [Fintype ι] [Nonempty ι] (p : ι → Prop) [DecidablePred p] :
    (Finset.univ : Finset ι).fold max ⊥ (fun j => if p j then (1 : EReal) else 0) = if ∃ j, p j then 1 else 0 := by
  by_cases h : ∃ j, p j
  · rw [if_pos h]
    obtain ⟨j, hj⟩ := h
    refine le_antisymm ((Finset.fold_max_le _).mpr ⟨bot_le, fun k _ => ?_⟩) ((Finset.le_fold_max _).mpr (.inr ⟨j, Finset.mem_univ _, (if_pos hj).ge⟩))
    split <;> [exact le_rfl; exact zero_le_one]
  · rw [if_neg h]
    have h' : ∀ j, (if p j then (1 : EReal) else 0) = 0 := fun j => if_neg fun hj => h ⟨j, hj⟩
    exact le_antisymm ((Finset.fold_max_le _).mpr ⟨bot_le, fun k _ => (h' k).le⟩)
      ((Finset.le_fold_max _).mpr (.inr ⟨Classical.arbitrary ι, Finset.mem_univ _, (h' _).ge⟩))

/-- The least of such flags. -/
theorem fold_min_flag {ι : Type} [Fintype ι] [Nonempty ι] (p : ι → Prop) [DecidablePred p] :
    (Finset.univ : Finset ι).fold min ⊤ (fun j => if p j then (1 : EReal) else 0) = if ∀ j, p j then 1 else 0 := by
  by_cases h : ∀ j, p j
  · rw [if_pos h]
    exact fold_min_eq _ _ (fun j => (if_pos (h j)).ge) (Classical.arbitrary ι) (if_pos (h _))
  · rw [if_neg h]
    obtain ⟨j, hj⟩ := not_forall.mp h
    refine fold_min_eq _ _ (fun k => ?_) j (if_neg hj)
    split <;> [exact zero_le_one; exact le_rfl]

/-- A table looked up by comparing with every index. -/
theorem pick {n : ℕ} (hn : 0 < n) (k : ℕ) (g : Fin n → EReal) (e : EReal) (hg : ∀ j, g j ≤ e) :
    (Finset.univ : Finset (Fin n)).fold min ⊤ (fun j => if num k = num j.val then g j else e) = if h : k < n then g ⟨k, h⟩ else e := by
  by_cases h : k < n
  · rw [dif_pos h]
    refine fold_min_eq _ _ (fun j => ?_) ⟨k, h⟩ (if_pos rfl)
    by_cases hj : num k = num j.val
    · rw [if_pos hj]
      have : (⟨k, h⟩ : Fin n) = j := Fin.ext (num_inj.mp hj)
      rw [this]
    · rw [if_neg hj]; exact hg _
  · rw [dif_neg h]
    have : ∀ j : Fin n, (if num k = num j.val then g j else e) = e := fun j => if_neg fun hj => h (by rw [num_inj.mp hj]; exact j.isLt)
    exact fold_min_eq _ _ (fun j => (this j).ge) ⟨0, hn⟩ (this _)

/-! ### Counting along the indices -/

/-- How many of the `k` points up to `i` are marked. -/
def win {n : ℕ} (p : Fin n → Prop) (k i : ℕ) : ℕ := (Finset.univ.filter fun j : Fin n => j.val ≤ i ∧ i < j.val + k ∧ p j).card

/-- Twice as many points, by the same count `k` points earlier. -/
theorem win_double {n : ℕ} (p : Fin n → Prop) (k i : ℕ) : win p k i + (if i < k then 0 else win p k (i - k)) = win p (2 * k) i := by
  unfold win
  simp only [Finset.card_filter]
  by_cases h : i < k
  · rw [if_pos h, add_zero]
    refine Finset.sum_congr rfl fun j _ => ?_
    by_cases hp : p j <;> simp only [hp, and_true, and_false, if_false]
    congr 1
    exact propext ⟨fun ⟨a, b⟩ => ⟨a, by omega⟩, fun ⟨a, b⟩ => ⟨a, by omega⟩⟩
  · rw [if_neg h, ← Finset.sum_add_distrib]
    refine Finset.sum_congr rfl fun j _ => ?_
    by_cases hp : p j <;> simp only [hp, and_true, and_false, if_false, add_zero]
    split_ifs <;> omega

/-- One point counted is the point itself, if marked. -/
theorem win_one {n : ℕ} (p : Fin n → Prop) (i : Fin n) : win p 1 i.val = if p i then 1 else 0 := by
  unfold win
  rw [show (Finset.univ.filter fun j : Fin n => j.val ≤ i.val ∧ i.val < j.val + 1 ∧ p j) = if p i then {i} else ∅ by
    ext j
    have hj : j.val ≤ i.val ∧ i.val < j.val + 1 ↔ j = i := ⟨fun h => Fin.ext (by omega), fun h => by rw [h]; omega⟩
    rw [Finset.mem_filter]
    by_cases ho : p i
    · rw [if_pos ho, Finset.mem_singleton]
      exact ⟨fun h => hj.mp ⟨h.2.1, h.2.2.1⟩, fun h => ⟨Finset.mem_univ _, (hj.mpr h).1, (hj.mpr h).2, by rw [h]; exact ho⟩⟩
    · rw [if_neg ho]
      exact ⟨fun h => absurd (hj.mp ⟨h.2.1, h.2.2.1⟩ ▸ h.2.2.2) ho, fun h => absurd h (Finset.notMem_empty _)⟩]
  split <;> simp

/-- As many points as there are count all the marks so far. -/
theorem win_all {n : ℕ} (core : Fin n → Prop) (ℓ : Fin n → ℕ) (p : Fin n → Prop) (hp : ∀ j, p j ↔ core j ∧ ℓ j = j.val) (i : Fin n) :
    win p n i.val = cnt core ℓ i.val := by
  unfold win cnt
  congr 1
  ext j
  rw [Finset.mem_filter, Finset.mem_filter]
  refine and_congr_right fun _ => ?_
  have := i.isLt
  exact ⟨fun h => ⟨h.1, (hp j).mp h.2.2⟩, fun h => ⟨h.1, by omega, (hp j).mpr h.2⟩⟩

end Cert.Proof.Math

end
-- ==== Proof.KI.Read.lean ====
/-
  The kernel's vectors read over the extended reals: the adjacency matrix and the core points, one pass of partial minima,
  the round, the jump and the lookup, each as the function of Proof/Math it computes.
-/
module

public import proofs.«01_k».proof.Proof.KI.Pure
public import proofs.«01_k».proof.Proof.Math.Near

@[expose] public section

set_option maxRecDepth 16384

noncomputable section

namespace Cert.Proof.KI

open Cert.KernelIdeal Cert.KernelIdeal.Gen
open Idealize.ShloMosaic Cert.Proof.Math
open Classical

/-- Labels as the kernel holds them. -/
abbrev enc (ℓ : Fin 4096 → ℕ) : Vec Ideal S1x4096 .f32 := fun i => num (ℓ (i 1))

/-- A flag that is 1 or 0 is above zero when it is 1. -/
theorem flag_gt (p : Prop) [Decidable p] : (Scalar.cmpf .ogt (if p then (1 : EReal) else 0 : Ideal .f32) (Scalar.ofBits .f32 0x00000000#32 : Ideal .f32)) = bit p := by
  rw [show (Scalar.ofBits .f32 0x00000000#32 : Ideal .f32) = 0 from Ideal.ofBits_zero_f32, Ideal.scalar_cmpf_def]
  refine ofBool_bit ?_
  by_cases h : p <;> simp [h]

/-- The kernel's test of a widened bit. -/
theorem widened_bit (p : Prop) : Scalar.cmpi .ne (Scalar.extui (bit p) : BitVec 32) 0#32 = 1#1 ↔ p := by
  by_cases h : p
  · rw [show bit p = 1#1 from if_pos h]; exact iff_of_true (by decide) h
  · rw [show bit p = 0#1 from if_neg h]; exact iff_of_false (by decide) h

/-! ### The graph -/

/-- An entry of the adjacency matrix. -/
theorem adjM_ix (x : Vec Ideal S4096x8 .f32) (i j : Fin 4096) : adjM x (ix2 i j) = if near x i j then 1 else 0 := by
  unfold adjM
  pointwise [k0_pay10, k0_pay9, k0_pay6, k0_pay8, rowBlk, colBlk, sqRow]
  rw [glue_blk_loc]
  exact if_congr Iff.rfl rfl rfl

/-- A neighbour count. -/
theorem degV_ix (x : Vec Ideal S4096x8 .f32) (i : Fin 4096) : degV x (ix2 0 i) = num (Finset.univ.filter fun j => near x i j).card := by
  unfold degV
  pointwise [k0_pay11, k0_pay9, k0_pay6, k0_pay8, rowBlk, colBlk, sqRow]
  rw [glue_blk_loc]
  refine Eq.trans (b := ∑ j, if near x i j then (1 : EReal) else 0) (Finset.sum_congr rfl fun j _ => if_congr Iff.rfl rfl rfl) ?_
  rw [Finset.sum_boole]
  exact EReal.coe_natCast.symm

/-- The core points' mask. -/
theorem coreV_ix (x : Vec Ideal S4096x8 .f32) (i : Fin 4096) : k0_pay12 (F := Ideal) (degV x) (ix2 0 i) = bit (isCore x i) := by
  pointwise [k0_pay12]
  rw [degV_ix, bits_5]
  exact ofBool_bit num_le

/-! ### One round -/

variable (A : Fin 4096 → Fin 4096 → Prop) (core : Fin 4096 → Prop)

/-- The labels shifted down, as a pass reads them. -/
def low (ℓ : Fin 4096 → ℕ) (i : Fin 4096) : ℝ := ((if core i then ℓ i else 4096 : ℕ) : ℝ) - 4096

/-- The same as a row. -/
abbrev lowV (ℓ : Fin 4096 → ℕ) : Vec Ideal S1x4096 .f32 := fun i => ((low core ℓ (i 1) : ℝ) : EReal)

/-- Shifted labels are at most zero. -/
theorem low_le {ℓ : Fin 4096 → ℕ} (hℓ : ∀ v, ℓ v ≤ 4096) (i : Fin 4096) : low core ℓ i ≤ 0 := by
  unfold low
  rw [sub_nonpos]
  have : (if core i then ℓ i else 4096) ≤ 4096 := by split <;> [exact hℓ i; exact le_rfl]
  exact_mod_cast this

/-- The partial minima of these labels. -/
def parts (M : Vec Ideal S4096x4096 .bf16) (ℓ : Fin 4096 → ℕ) : Vec Ideal S8x4096 .f32 := fun i =>
  k0_pay22 (colBlk (lowV core ℓ) (i 0)) (matBlk M (i 0)) (ix2 (0 : Fin 1) (i 1))

section

variable {A core} {M : Vec Ideal S4096x4096 .bf16} (hM : ∀ i j, M (ix2 i j) = if A i j then 1 else 0)
  {cv : IVec S1x4096 1} (hc : ∀ i, cv (ix2 0 i) = bit (core i)) {ℓ : Fin 4096 → ℕ} (hℓ : ∀ v, ℓ v ≤ 4096)

include hc in
/-- What a pass reads. -/
theorem pay19_enc : k0_pay19 (F := Ideal) cv (enc ℓ) = lowV core ℓ := by
  funext i
  idx_vars i
  obtain rfl : i0 = 0 := Subsingleton.elim _ _
  pointwise [k0_pay19]
  rw [hc, select_bit, bits_4096]
  show (if core i1 then num (ℓ i1) else num 4096) - num 4096 = _
  rw [← apply_ite num, ← EReal.coe_sub]
  rfl

include hc in
/-- The rows a round stores. -/
theorem pay20_enc : k0_pay20 (F := Ideal) cv (enc ℓ) = lowV core ℓ := by
  rw [← pay19_enc (ℓ := ℓ) hc]
  funext i
  idx_vars i
  pointwise [k0_pay20]

include hc in
/-- The same rows, kept for the next round. -/
theorem pay23_enc : k0_pay23 (F := Ideal) cv (enc ℓ) = lowV core ℓ := pay20_enc hc

include hM hℓ in
/-- The least of the partial minima, shifted up, is the least label among the neighbours. -/
theorem parts_min (hA : ∀ i j, A i j → A j i) (v : Fin 4096) :
    (Finset.univ : Finset (Fin 8)).fold min ⊤ (fun b => parts core M ℓ (ix2 b v)) + num 4096 = num (nbr A core ℓ v) := by
  have hp : ∀ b, parts core M ℓ (ix2 b v) = (Finset.univ : Finset (Fin 512)).fold min ⊤
      (fun r => (((if A (glue b r) v then low core ℓ (glue b r) else 0 : ℝ)) : EReal)) := fun b => by
    unfold parts
    pointwise [k0_pay22, colBlk, matBlk]
    simp only [hM, bits_top]
    congr 1
    funext r
    split <;> simp
  simp only [hp]
  have hn := nbr_le_n A core ℓ v
  have key : (Finset.univ : Finset (Fin 8)).fold min ⊤ (fun b => (Finset.univ : Finset (Fin 512)).fold min ⊤
      (fun r => (((if A (glue b r) v then low core ℓ (glue b r) else 0 : ℝ)) : EReal))) = (((nbr A core ℓ v : ℝ) - 4096 : ℝ) : EReal) := by
    refine le_antisymm ?_ ?_
    · rcases nbr_mem A core ℓ v with h | ⟨j, hj, hcj, h⟩
      · refine (Finset.fold_min_le _).mpr (.inr ⟨0, Finset.mem_univ _, (Finset.fold_min_le _).mpr (.inr ⟨0, Finset.mem_univ _, ?_⟩)⟩)
        rw [h, EReal.coe_le_coe_iff]
        have := low_le core hℓ (glue 0 0)
        split <;> norm_num <;> linarith
      · refine (Finset.fold_min_le _).mpr (.inr ⟨blk j, Finset.mem_univ _, (Finset.fold_min_le _).mpr (.inr ⟨loc j, Finset.mem_univ _, ?_⟩)⟩)
        rw [glue_blk_loc, if_pos (hA _ _ hj), h]
        unfold low
        rw [if_pos hcj]
    · refine (Finset.le_fold_min _).mpr ⟨le_top, fun b _ => (Finset.le_fold_min _).mpr ⟨le_top, fun r _ => ?_⟩⟩
      rw [EReal.coe_le_coe_iff]
      have hn' : (nbr A core ℓ v : ℝ) ≤ 4096 := by exact_mod_cast hn
      split
      · next h =>
        unfold low
        by_cases hcj : core (glue b r)
        · rw [if_pos hcj]
          have : (nbr A core ℓ v : ℝ) ≤ ℓ (glue b r) := by exact_mod_cast nbr_le A core ℓ (hA _ _ h) hcj
          linarith
        · rw [if_neg hcj]; push_cast; linarith
      · linarith
  rw [key, ← EReal.coe_add]
  congr 1
  push_cast
  ring

include hM hc hℓ in
/-- The labels after a round. -/
theorem pay24_enc (hA : ∀ i j, A i j → A j i) : k0_pay24 (F := Ideal) cv (enc ℓ) (parts core M ℓ) = enc (hook A core ℓ) := by
  funext i
  idx_vars i
  obtain rfl : i0 = 0 := Subsingleton.elim _ _
  pointwise [k0_pay24]
  rw [hc, select_bit, bits_4096, bits_top, parts_min hM hℓ hA]
  show (if core i1 then min (num (ℓ i1)) _ else num (ℓ i1)) = num (hook A core ℓ i1)
  rw [num_min, ← apply_ite num]
  rfl

include hM hc hℓ in
/-- The same labels, as stored. -/
theorem pay25_enc (hA : ∀ i j, A i j → A j i) : k0_pay25 (F := Ideal) cv (enc ℓ) (parts core M ℓ) = enc (hook A core ℓ) := by
  rw [← pay24_enc hM hc hℓ hA]
  funext i
  idx_vars i
  pointwise [k0_pay25]

include hM hc hℓ in
/-- Whether the round changed nothing. -/
theorem pay26_enc (hA : ∀ i j, A i j → A j i) :
    k0_pay26 (F := Ideal) cv (enc ℓ) (parts core M ℓ) = if hook A core ℓ = ℓ then (1 : EReal) else 0 := by
  pointwise [k0_pay26]
  rw [bits_top, pay24_enc hM hc hℓ hA]
  refine (fold_min_flag _).trans (if_congr ⟨fun h => funext fun v => ?_, fun h j => ?_⟩ rfl rfl)
  · exact num_inj.mp (h (0, v))
  · rw [h]

include hℓ in
/-- The jump's labels. -/
theorem jumpV_enc : jumpV (enc ℓ) = enc fun v => look ℓ (ℓ v) := by
  funext i
  idx_vars i
  unfold jumpV
  pointwise [k0_pay4, k0_pay7, colBlk]
  rw [glue_blk_loc, bits_top, bits_4096]
  simp only [word_num]
  refine (pick (by decide) (ℓ i1) (fun j => num (ℓ j)) (num 4096) (fun j => num_le.mpr (hℓ j))).trans ?_
  show _ = num (look ℓ (ℓ i1))
  unfold look
  split <;> rfl

include hℓ in
/-- The labels after a jump. -/
theorem pay5_enc : k0_pay5 (F := Ideal) (enc ℓ) (jumpV (enc ℓ)) = enc (jump ℓ) := by
  rw [jumpV_enc hℓ]
  funext i
  idx_vars i
  pointwise [k0_pay5]
  exact num_min _ _

end

/-- Whether a block of labels changed. -/
theorem changed_iff (a b : Vec Ideal S1x512 .f32) : changed a b ↔ ∃ j : Fin 512, a (ix2 0 j) ≠ b (ix2 0 j) := by
  have h : k0_pay21 (F := Ideal) a b = if ∃ j : Fin 512, a (ix2 0 j) ≠ b (ix2 0 j) then (1 : EReal) else 0 := by
    pointwise [k0_pay21]
    rw [bits_bot]
    refine (fold_max_flag _).trans (if_congr ⟨fun ⟨j, h⟩ => ⟨j.2, h⟩, fun ⟨j, h⟩ => ⟨(0, j), h⟩⟩ rfl rfl)
  unfold changed
  rw [h, flag_gt]
  exact widened_bit _

end Cert.Proof.KI

end
-- ==== Proof.KI.Labels.lean ====
/-
  The label loop over the extended reals: where the plain rounds come to rest within 32 of them, the loop ends with those
  labels and with the partial minima of those labels, whatever the partial minima's buffer held before.
-/
module

public import proofs.«01_k».proof.Proof.KI.Read

@[expose] public section

set_option maxRecDepth 16384

noncomputable section

namespace Cert.Proof.KI

open Cert.KernelIdeal Cert.KernelIdeal.Gen
open Idealize.ShloMosaic Cert.Proof.Math
open Classical

variable (x : Vec Ideal S4096x8 .f32)

/-- The labels the plain rounds come to. -/
abbrev final : Fin 4096 → ℕ := plain (near x) (isCore x) 32

/-- The rows last passed over: none yet, or those of some labels. -/
def Passed (s : WS Ideal) : Prop :=
  s.prev = k0_pay14 (F := Ideal) ∨ ∃ ℓ : Fin 4096 → ℕ, s.prev = lowV (isCore x) ℓ ∧ s.part = parts (isCore x) (adjM x) ℓ

/-- The loop's state after `k` rounds. -/
def After (k : ℕ) (s : WS Ideal) : Prop :=
  ∃ ℓ : Fin 4096 → ℕ, Inv (near x) (isCore x) 32 k ℓ ∧ s.lab = enc ℓ ∧ s.it = BitVec.ofNat 32 k ∧ Passed x s ∧
    (s.dn = 1#1 ∨ 33 ≤ k → ℓ = final x ∧ s.part = parts (isCore x) (adjM x) (final x))

variable {x}

/-- A pass leaves the partial minima of the labels it was given, whichever blocks it recomputes. -/
theorem part_eq {s : WS Ideal} {ℓ : Fin 4096 → ℕ} (hℓ : ∀ v, ℓ v ≤ 4096) (hl : s.lab = enc ℓ) (hp : Passed x s) :
    s.part' (k0_pay12 (degV x)) (adjM x) = parts (isCore x) (adjM x) ℓ := by
  unfold WS.part' partStep
  rw [hl, pay20_enc (coreV_ix x)]
  funext i
  by_cases h : changed (colBlk (lowV (isCore x) ℓ) (i 0)) (colBlk s.prev (i 0))
  · rw [if_pos h]; rfl
  · rw [if_neg h]
    rw [changed_iff] at h
    push Not at h
    rcases hp with hp | ⟨ℓ', hp, hq⟩
    · exfalso
      have h0 := h 0
      rw [hp] at h0
      have h1 : colBlk (k0_pay14 (F := Ideal)) (i 0) (ix2 0 0) = ((1 : ℝ) : EReal) := by
        pointwise [k0_pay14, colBlk]
        rfl
      rw [h1] at h0
      have h2 : low (isCore x) ℓ (glue (i 0) 0) = 1 := EReal.coe_eq_coe_iff.mp h0
      have := low_le (isCore x) hℓ (glue (i 0) 0)
      linarith
    · rw [hq]
      unfold parts
      congr 1
      rw [hp] at h
      funext y
      have hy : y = ix2 0 (y 1) := by
        funext a
        fin_cases a
        · exact Subsingleton.elim (α := Fin 1) _ _
        · rfl
      rw [hy]
      exact (h (y 1)).symm

section

variable (hH : hook (near x) (isCore x) (final x) = final x)
include hH

/-- One more round. -/
theorem after_next {k : ℕ} {s : WS Ideal} (hs : After x k s) : After x (k + 1) (s.next (k0_pay12 (degV x)) (adjM x)) := by
  obtain ⟨ℓ, hI, hl, hit, hp, -⟩ := hs
  have hℓ : ∀ v, ℓ v ≤ 4096 := good_le_n _ hI.1
  have hA := near_symm x
  have hpart := part_eq hℓ hl hp
  have hhook : s.hook (k0_pay12 (degV x)) (adjM x) = enc (hook (near x) (isCore x) ℓ) := by
    unfold WS.hook
    rw [hpart, hl]
    exact pay25_enc (adjM_ix x) (coreV_ix x) hℓ hA
  have hI' := inv_hook _ _ 32 hA hH hI
  have hI'' := inv_jump _ _ 32 hA hH hI
  have hdn : (s.next (k0_pay12 (degV x)) (adjM x)).dn = bit (hook (near x) (isCore x) ℓ = ℓ) := by
    unfold WS.next
    dsimp only
    rw [hpart, hl, pay26_enc (adjM_ix x) (coreV_ix x) hℓ hA]
    exact flag_gt _
  have hit' : (s.next (k0_pay12 (degV x)) (adjM x)).it = BitVec.ofNat 32 (k + 1) := by
    show Scalar.addi s.it 1#32 = _
    rw [hit]
    exact (BitVec.ofNat_add k 1).symm
  have hpass : Passed x (s.next (k0_pay12 (degV x)) (adjM x)) := by
    refine .inr ⟨ℓ, ?_, hpart⟩
    show k0_pay23 (F := Ideal) _ s.lab = _
    rw [hl]
    exact pay23_enc (coreV_ix x)
  have hrest : (s.next (k0_pay12 (degV x)) (adjM x)).dn = 1#1 ∨ 33 ≤ k + 1 → ℓ = final x := by
    rintro (h | h)
    · rw [hdn] at h
      have hf : hook (near x) (isCore x) ℓ = ℓ := by
        by_contra hf
        rw [show bit (hook (near x) (isCore x) ℓ = ℓ) = 0#1 from if_neg hf] at h
        exact absurd h (by decide)
      exact inv_fixed _ _ 32 hA hH hI hf
    · exact inv_eq _ _ 32 hA hH hI (by omega)
  by_cases hj : jumps s.it
  · refine ⟨jump (hook (near x) (isCore x) ℓ), hI'', ?_, hit', hpass, fun h => ?_⟩
    · show (if jumps s.it then _ else _) = _
      rw [if_pos hj, hhook]
      exact pay5_enc (good_le_n _ hI'.1)
    · have := hrest h
      refine ⟨?_, hpart.trans (by rw [this])⟩
      rw [this, hH]
      exact jump_plain _ _ 32 hA hH
  · refine ⟨hook (near x) (isCore x) ℓ, hI', ?_, hit', hpass, fun h => ?_⟩
    · show (if jumps s.it then _ else _) = _
      rw [if_neg hj, hpart, hl]
      exact pay24_enc (adjM_ix x) (coreV_ix x) hℓ hA
    · have := hrest h
      refine ⟨?_, hpart.trans (by rw [this])⟩
      rw [this, hH]

omit hH in
/-- A state whose test fails has run out of rounds or is done. -/
theorem done_of_not_test {k : ℕ} {s : WS Ideal} (hk : k < 96) (hit : s.it = BitVec.ofNat 32 k) (h : ¬ s.test) : s.dn = 1#1 := by
  by_contra hd
  refine h ?_
  unfold WS.test
  have h1 : Scalar.cmpi .slt s.it 96#32 = 1#1 := by
    rw [hit]
    have : ∀ k : Fin 96, Scalar.cmpi .slt (BitVec.ofNat 32 k.val) 96#32 = 1#1 := by decide
    exact this ⟨k, hk⟩
  have h0 : s.dn = 0#1 := by
    revert hd
    generalize s.dn = d
    revert d
    decide
  rw [h1, h0]
  decide

/-- The loop's end. -/
theorem run_final : ∀ (j k : ℕ) (s : WS Ideal), k + j = 96 → After x k s →
    (WS.run (k0_pay12 (degV x)) (adjM x) j s).lab = enc (final x) ∧
    (WS.run (k0_pay12 (degV x)) (adjM x) j s).part = parts (isCore x) (adjM x) (final x)
  | 0, k, s, hk, hs => by
    obtain ⟨ℓ, -, hl, -, -, hf⟩ := hs
    obtain ⟨h, hp⟩ := hf (.inr (by omega))
    exact ⟨hl.trans (by rw [h]), hp⟩
  | j + 1, k, s, hk, hs => by
    unfold WS.run
    by_cases ht : s.test
    · rw [if_pos ht]
      exact run_final j (k + 1) _ (by omega) (after_next hH hs)
    · rw [if_neg ht]
      obtain ⟨ℓ, -, hl, hit, -, hf⟩ := hs
      obtain ⟨h, hp⟩ := hf (.inl (done_of_not_test (by omega) hit ht))
      exact ⟨hl.trans (by rw [h]), hp⟩

/-- The loop's end, from the kernel's start. -/
theorem end_final (p : Vec Ideal S8x4096 .f32) :
    (wsEnd x p).lab = enc (final x) ∧ (wsEnd x p).part = parts (isCore x) (adjM x) (final x) := by
  refine run_final hH 96 0 (ws0 x p) rfl ⟨start (isCore x), inv_start _ _ 32, ?_, rfl, .inl rfl, ?_⟩
  · show k0_pay13 (degV x) = _
    funext i
    idx_vars i
    obtain rfl : i0 = 0 := Subsingleton.elim _ _
    pointwise [k0_pay13, k0_pay7]
    rw [coreV_ix, select_bit, word_num, bits_4096]
    show (if isCore x i1 then num i1.val else num 4096) = num (start (isCore x) i1)
    rw [← apply_ite num]
    rfl
  · rintro (h | h)
    · exact absurd (show (0#1 : BitVec 1) = 1#1 from h) (by decide)
    · omega

/-- The roots. -/
theorem rootV_eq (p : Vec Ideal S8x4096 .f32) : rootV x p = enc (root (near x) (isCore x) (final x)) := by
  have hL : ∀ v, final x v ≤ 4096 := good_le_n _ (good_plain _ _ 32 (near_symm x) hH)
  unfold rootV
  rw [(end_final hH p).1, (end_final hH p).2]
  funext i
  idx_vars i
  obtain rfl : i0 = 0 := Subsingleton.elim _ _
  pointwise [k0_pay15]
  rw [coreV_ix, select_bit, bits_4096, bits_top, parts_min (adjM_ix x) hL (near_symm x)]
  show (if isCore x i1 then num (final x i1) else _) = num (root (near x) (isCore x) (final x) i1)
  rw [← apply_ite num]
  rfl

/-- The marks of the points that are their own roots. -/
theorem mark_eq (p : Vec Ideal S8x4096 .f32) (i : Fin 4096) :
    k0_pay16 (F := Ideal) (degV x) (wsEnd x p).lab (ix2 0 i) = if isCore x i ∧ final x i = i.val then 1#32 else 0#32 := by
  rw [(end_final hH p).1]
  pointwise [k0_pay16, k0_pay7]
  rw [coreV_ix, word_num, ofBool_bit (num_inj : enc (final x) (ix2 0 i) = num i.val ↔ _)]
  by_cases h1 : isCore x i <;> by_cases h2 : final x i = i.val <;> simp [h1, h2, IntOp.andi]

end

end Cert.Proof.KI

end
-- ==== Proof.KI.Count.lean ====
/-
  The kernel's running count over the extended reals: twelve shifted additions, each doubling how many points an entry
  has counted.
-/
module

public import proofs.«01_k».proof.Proof.KI.Labels

@[expose] public section

set_option maxRecDepth 16384

noncomputable section

namespace Cert.Proof.KI

open Cert.KernelIdeal Cert.KernelIdeal.Gen
open Idealize.ShloMosaic Cert.Proof.Math
open Classical

/-- A row of whole numbers. -/
abbrev row (f : ℕ → ℕ) : FVec Ideal S1x4096 .f32 := fun i => num (f (i 1).val)

/-- A row plus itself moved `d` places on, zeros moving in. -/
def shiftAdd (d e : ℕ) (hc : Shape.Concatenates [(⟨2, ![1, d]⟩ : Shape), S1x4096] ⟨2, ![1, e]⟩ 1)
    (hs : (⟨2, ![1, e]⟩ : Shape).Slices ![0, 0] S1x4096) (v : FVec Ideal S1x4096 .f32) : FVec Ideal S1x4096 .f32 :=
  addf v (extractStridedSlice S1x4096 ![0, 0] (concatenate ⟨2, ![1, e]⟩ 1
    [⟨⟨2, ![1, d]⟩, broadcast ⟨2, ![1, d]⟩ (Scalar.sitofp .f32 0#32 : Ideal .f32)⟩, ⟨S1x4096, v⟩] hc) hs)

/-- It doubles how many points an entry has counted. -/
theorem shiftAdd_win (d e : ℕ) (hc : Shape.Concatenates [(⟨2, ![1, d]⟩ : Shape), S1x4096] ⟨2, ![1, e]⟩ 1)
    (hs : (⟨2, ![1, e]⟩ : Shape).Slices ![0, 0] S1x4096) (p : Fin 4096 → Prop) :
    shiftAdd d e hc hs (row (win p d)) = row (win p (2 * d)) := by
  funext i
  idx_vars i
  unfold shiftAdd
  pointwise
  show num (win p d i1.val) + (if h : 0 + i1.val < d then (((0#32 : BitVec 32).toInt : ℝ) : EReal) else num (win p d (0 + i1.val - d))) = num (win p (2 * d) i1.val)
  rw [← win_double p d i1.val, zero_add]
  by_cases h : i1.val < d
  · rw [dif_pos h, if_pos h, add_zero]
    simp
  · rw [dif_neg h, if_neg h, ← EReal.coe_add, ← Nat.cast_add]

section

variable {x : Vec Ideal S4096x8 .f32}

/-- The points that are their own roots. -/
abbrev own (x : Vec Ideal S4096x8 .f32) : Fin 4096 → Prop := fun i => isCore x i ∧ final x i = i.val

variable (hH : hook (near x) (isCore x) (final x) = final x)
include hH

/-- The marks count one point each. -/
theorem mark_win (p : Vec Ideal S8x4096 .f32) :
    (sitofp .f32 (k0_pay16 (F := Ideal) (degV x) (wsEnd x p).lab) : FVec Ideal S1x4096 .f32) = row (win (own x) 1) := by
  funext i
  idx_vars i
  obtain rfl : i0 = 0 := Subsingleton.elim _ _
  show FloatOps.sitofp (F := Ideal) .f32 (k0_pay16 (F := Ideal) (degV x) (wsEnd x p).lab (ix2 0 i1)) = num (win (own x) 1 i1.val)
  rw [mark_eq hH p]
  rw [win_one]
  by_cases h : own x i1
  · rw [if_pos h, if_pos h]
    exact word_num 1
  · rw [if_neg h, if_neg h]
    exact word_num 0

/-- After nine additions. -/
theorem pay17_win (p : Vec Ideal S8x4096 .f32) : k0_pay17 (F := Ideal) (k0_pay16 (degV x) (wsEnd x p).lab) = row (win (own x) 512) := by
  have h1 := shiftAdd_win 1 4097 concatenates_S1x1_S1x4096_S1x4097_d1 slices_S1x4097_o0_0_S1x4096 (own x)
  have h2 := shiftAdd_win 2 4098 concatenates_S1x2_S1x4096_S1x4098_d1 slices_S1x4098_o0_0_S1x4096 (own x)
  have h3 := shiftAdd_win 4 4100 concatenates_S1x4_S1x4096_S1x4100_d1 slices_S1x4100_o0_0_S1x4096 (own x)
  have h4 := shiftAdd_win 8 4104 concatenates_S1x8_S1x4096_S1x4104_d1 slices_S1x4104_o0_0_S1x4096 (own x)
  have h5 := shiftAdd_win 16 4112 concatenates_S1x16_S1x4096_S1x4112_d1 slices_S1x4112_o0_0_S1x4096 (own x)
  have h6 := shiftAdd_win 32 4128 concatenates_S1x32_S1x4096_S1x4128_d1 slices_S1x4128_o0_0_S1x4096 (own x)
  have h7 := shiftAdd_win 64 4160 concatenates_S1x64_S1x4096_S1x4160_d1 slices_S1x4160_o0_0_S1x4096 (own x)
  have h8 := shiftAdd_win 128 4224 concatenates_S1x128_S1x4096_S1x4224_d1 slices_S1x4224_o0_0_S1x4096 (own x)
  have h9 := shiftAdd_win 256 4352 concatenates_S1x256_S1x4096_S1x4352_d1 slices_S1x4352_o0_0_S1x4096 (own x)
  have e : ∀ v : IVec S1x4096 32, k0_pay17 (F := Ideal) v =
      shiftAdd 256 4352 concatenates_S1x256_S1x4096_S1x4352_d1 slices_S1x4352_o0_0_S1x4096
      (shiftAdd 128 4224 concatenates_S1x128_S1x4096_S1x4224_d1 slices_S1x4224_o0_0_S1x4096
      (shiftAdd 64 4160 concatenates_S1x64_S1x4096_S1x4160_d1 slices_S1x4160_o0_0_S1x4096
      (shiftAdd 32 4128 concatenates_S1x32_S1x4096_S1x4128_d1 slices_S1x4128_o0_0_S1x4096
      (shiftAdd 16 4112 concatenates_S1x16_S1x4096_S1x4112_d1 slices_S1x4112_o0_0_S1x4096
      (shiftAdd 8 4104 concatenates_S1x8_S1x4096_S1x4104_d1 slices_S1x4104_o0_0_S1x4096
      (shiftAdd 4 4100 concatenates_S1x4_S1x4096_S1x4100_d1 slices_S1x4100_o0_0_S1x4096
      (shiftAdd 2 4098 concatenates_S1x2_S1x4096_S1x4098_d1 slices_S1x4098_o0_0_S1x4096
      (shiftAdd 1 4097 concatenates_S1x1_S1x4096_S1x4097_d1 slices_S1x4097_o0_0_S1x4096 (sitofp .f32 v))))))))) := fun v => rfl
  rw [e, mark_win hH p, h1, h2, h3, h4, h5, h6, h7, h8, h9]

/-- The cluster numbers. -/
theorem cidV_eq (p : Vec Ideal S8x4096 .f32) :
    cidV x p = fun i => ((((cnt (isCore x) (final x) (i 1).val : ℝ) - 1 : ℝ)) : EReal) := by
  have h10 := shiftAdd_win 512 4608 concatenates_S1x512_S1x4096_S1x4608_d1 slices_S1x4608_o0_0_S1x4096 (own x)
  have h11 := shiftAdd_win 1024 5120 concatenates_S1x1024_S1x4096_S1x5120_d1 slices_S1x5120_o0_0_S1x4096 (own x)
  have h12 := shiftAdd_win 2048 6144 concatenates_S1x2048_S1x4096_S1x6144_d1 slices_S1x6144_o0_0_S1x4096 (own x)
  have e : ∀ v : IVec S1x4096 32, k0_pay1 (F := Ideal) (k0_pay17 v) (k0_pay18 v) = shapeCast S1x4096 (subf
      (shiftAdd 2048 6144 concatenates_S1x2048_S1x4096_S1x6144_d1 slices_S1x6144_o0_0_S1x4096
      (shiftAdd 1024 5120 concatenates_S1x1024_S1x4096_S1x5120_d1 slices_S1x5120_o0_0_S1x4096
      (shiftAdd 512 4608 concatenates_S1x512_S1x4096_S1x4608_d1 slices_S1x4608_o0_0_S1x4096 (k0_pay17 v))))
      (broadcast S1x4096 (Scalar.ofBits .f32 0x3F800000#32))) shapeCasts_S1x4096_S1x4096 := fun v => rfl
  unfold cidV
  rw [e, pay17_win hH p, h10, h11, h12]
  funext i
  idx_vars i
  pointwise
  show num (win (own x) 4096 i1.val) - 1 = _
  rw [win_all (isCore x) (final x) (own x) (fun _ => Iff.rfl) i1, ← EReal.coe_one, ← EReal.coe_sub]

omit hH in
/-- A small whole number as a word. -/
theorem word_of_int (z : ℤ) (h0 : -1 ≤ z) (h1 : z ≤ 4096) : FloatOps.fptosi (F := Ideal) (φ := .f32) 32 (((z : ℝ)) : EReal) = BitVec.ofInt 32 z := by
  show BitVec.ofInt 32 (max (-(2 ^ (32 - 1) : ℕ) : ℤ) (min ((2 ^ (32 - 1) : ℕ) - 1) (if 0 ≤ (z : ℝ) then ⌊(z : ℝ)⌋ else ⌈(z : ℝ)⌉))) = _
  rw [Int.floor_intCast, Int.ceil_intCast, ite_self, min_eq_right, max_eq_right]
  · norm_num; omega
  · norm_num; omega

/-- The kernel's result: the final label as a word. -/
theorem kOut_eq (p : Vec Ideal S8x4096 .f32) :
    kOut x p = fun i => BitVec.ofInt 32 (label (near x) (isCore x) (final x) (i 1)) := by
  unfold kOut
  rw [rootV_eq hH p, cidV_eq hH p]
  funext i
  idx_vars i
  obtain rfl : i0 = 0 := Subsingleton.elim _ _
  unfold lookV
  pointwise [k0_pay3, k0_pay2, k0_pay7, colBlk]
  simp only [glue_blk_loc, bits_4096, bits_top, word_num]
  have hr : root (near x) (isCore x) (final x) i1 ≤ 4096 := by
    unfold root
    split
    · exact good_le_n _ (good_plain _ _ 32 (near_symm x) hH) i1
    · exact nbr_le_n _ _ _ _
  have hcnt : ∀ k, cnt (isCore x) (final x) k ≤ 4096 := fun k => (Finset.card_le_univ _).trans (Fintype.card_fin 4096).le
  have hpick := pick (n := 4096) (by decide) (root (near x) (isCore x) (final x) i1)
    (fun j => (((cnt (isCore x) (final x) j.val : ℝ) - 1 : ℝ) : EReal)) (num 4096) (fun j => by
      rw [EReal.coe_le_coe_iff]
      have : (cnt (isCore x) (final x) j.val : ℝ) ≤ 4096 := by exact_mod_cast hcnt j.val
      push_cast
      linarith)
  have he : enc (root (near x) (isCore x) (final x)) (ix2 0 i1) = num 4096 ↔ root (near x) (isCore x) (final x) i1 = 4096 := num_inj
  unfold label
  by_cases h : root (near x) (isCore x) (final x) i1 < 4096
  · rw [dif_pos h] at hpick
    rw [if_pos h, if_neg (fun h' => h.ne (he.mp h'))]
    refine (congrArg (FloatOps.fptosi (F := Ideal) (φ := .f32) 32) hpick).trans ?_
    have := hcnt (root (near x) (isCore x) (final x) i1)
    rw [← word_of_int _ (by omega) (by omega)]
    push_cast
    rfl
  · rw [if_neg h, if_pos (he.mpr (le_antisymm hr (not_lt.mp h)))]
    rfl

end

end Cert.Proof.KI

end
-- ==== Proof.RI.Run.lean ====
/-
  The reference's run, restated over named values of its argument: the adjacency, the core points, the starting labels, the
  step of one round, and the result as a function of the last labels.
-/
module

public import proofs.«01_k».proof.Proof.Gen.ReferenceIdeal.Run
public import Idealize.ShloMosaic.Lib.Quiescent

@[expose] public section

set_option maxRecDepth 8192

noncomputable section

namespace Cert.Proof.RI

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-! ### The values -/

/-- The squared norms. -/
def sq (x : Vec F S4096x8 .f32) : Vec F S4096 .f32 :=
  Host.reduceAdd (mulf x x) (constant S_ .f32 0x00000000#32) reducesTo_S4096x8_S4096_d1 h_S_

/-- The squared distances before the clamp at zero. -/
def dist (x : Vec F S4096x8 .f32) : Vec F S4096x4096 .f32 :=
  subf
    (addf (broadcastInDim S4096x4096 ![0, 1] bcast_S4096x1_S4096x4096_0_1 (broadcastInDim S4096x1 ![0] bcast_S4096_S4096x1_0 (sq x)))
      (broadcastInDim S4096x4096 ![0, 1] bcast_S1x4096_S4096x4096_0_1 (broadcastInDim S1x4096 ![1] bcast_S4096_S1x4096_1 (sq x))))
    (mulf (broadcastInDim S4096x4096 ![] bcast_S_S4096x4096 (constant S_ .f32 0x40000000#32))
      (Host.dotGeneral dot_S4096x8_S8x4096_S4096x4096_1_0_0_1_n_n none x (transpose S8x4096 [1, 0] x transposes_S4096x8_S8x4096_1_0)))

/-- Which pairs lie within the radius. -/
def adj (x : Vec F S4096x8 .f32) : Vec F S4096x4096 .i1 :=
  cmpf .ole (maximumf (dist x) (broadcastInDim S4096x4096 ![] bcast_S_S4096x4096 (constant S_ .f32 0x00000000#32)))
    (broadcastInDim S4096x4096 ![] bcast_S_S4096x4096 (constant S_ .f32 0x4023D70A#32))

/-- How many points each point has within the radius. -/
def deg (x : Vec F S4096x8 .f32) : Vec F S4096 .i32 :=
  Host.reduce IntOp.addi (extui 32 (adj x) natLt_1_32) (constantI S_ 32 0#32) reducesTo_S4096x4096_S4096_d1 h_S_

/-- Which points are core points. -/
def core (x : Vec F S4096x8 .f32) : Vec F S4096 .i1 :=
  cmpi .sge (deg x) (broadcastInDim S4096 ![] bcast_S_S4096 (constantI S_ 32 5#32))

/-- The starting labels: a core point's own index, 4096 elsewhere. -/
def lab0 (x : Vec F S4096x8 .f32) : Vec F S4096 .i32 :=
  select (core x) (iotaInDim S4096 32 0) (broadcastInDim S4096 ![] bcast_S_S4096 (constantI S_ 32 4096#32))

/-- The columns of a row mask. -/
def colsOf (v : Vec F S4096 .i1) : Vec F S4096x4096 .i1 :=
  broadcastInDim S4096x4096 ![0, 1] bcast_S1x4096_S4096x4096_0_1 (broadcastInDim S1x4096 ![1] bcast_S4096_S1x4096_1 v)

/-- Which pairs are core points within the radius. -/
def coreAdj (x : Vec F S4096x8 .f32) : Vec F S4096x4096 .i1 :=
  andi (andi (adj x) (colsOf (core x)))
    (broadcastInDim S4096x4096 ![0, 1] bcast_S4096x1_S4096x4096_0_1 (broadcastInDim S4096x1 ![0] bcast_S4096_S4096x1_0 (core x)))

/-- Each row's least label over the pairs of a mask. -/
def least (mask : Vec F S4096x4096 .i1) (lab : Vec F S4096 .i32) : Vec F S4096 .i32 :=
  Host.reduce IntOp.minsi
    (select mask (broadcastInDim S4096x4096 ![0, 1] bcast_S1x4096_S4096x4096_0_1 (broadcastInDim S1x4096 ![1] bcast_S4096_S1x4096_1 lab))
      (broadcastInDim S4096x4096 ![] bcast_S_S4096x4096 (constantI S_ 32 4096#32)))
    (constantI S_ 32 2147483647#32) reducesTo_S4096x4096_S4096_d1 h_S_

/-- The indices as the lookup takes them: a negative one counts from the end. -/
def wrap (i : Vec F S4096 .i32) : Vec F S4096x1 .i32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 4097#32))) i)

/-- A table with one more entry at the end. -/
def ext (t : Vec F S4096 .i32) (e : Vec F S1 .i32) : Vec F S4097 .i32 :=
  concatenate S4097 0 [⟨S4096, t⟩, ⟨S1, e⟩] concatenates_S4096_S1_S4097_d0

/-- The table's entries at the indices. -/
def take (t : Vec F S4097 .i32) (i : Vec F S4096 .i32) : Vec F S4096 .i32 :=
  Host.gather gather_S4097_S4096x1_S4096_n_0_n_n_0_1_1 t (wrap i)

/-- One round: the least label among the neighbours, then one jump along the label. -/
def hook (mask : Vec F S4096x4096 .i1) (lab : Vec F S4096 .i32) : Vec F S4096 .i32 := minsi lab (least mask lab)
/-- The jump of a round. -/
def jump (lab : Vec F S4096 .i32) : Vec F S4096 .i32 :=
  minsi lab (take (ext lab (broadcastInDim S1 ![] bcast_S_S1 (constantI S_ 32 4096#32))) lab)
/-- The round whole. -/
def step (mask : Vec F S4096x4096 .i1) (lab : Vec F S4096 .i32) : Vec F S4096 .i32 := jump (hook mask lab)

/-- The labels after `n` rounds. -/
def labs (x : Vec F S4096x8 .f32) : ℕ → Vec F S4096 .i32
  | 0 => lab0 x
  | n + 1 => step (coreAdj x) (labs x n)

/-- The cluster of every point by its representative: a core point's label, else the least core neighbour's. -/
def root (x : Vec F S4096x8 .f32) (lab : Vec F S4096 .i32) : Vec F S4096 .i32 :=
  select (core x) lab (least (andi (adj x) (colsOf (core x))) lab)

/-- The clusters' numbers, counted along the representatives. -/
def cid (x : Vec F S4096x8 .f32) (lab : Vec F S4096 .i32) : Vec F S4096 .i32 :=
  subi (Host.reduceWindow IntOp.addi ![4096] ![1] ![4095] ![0]
      (extui 32 (andi (core x) (cmpi .eq lab (iotaInDim S4096 32 0))) natLt_1_32)
      (broadcastInDim S_ ![] bcast_S_S_ (constantI S_ 32 0#32)) reduceWindows_S4096_S4096_w4096s1p4095_0 h_S_)
    (broadcastInDim S4096 ![] bcast_S_S4096 (constantI S_ 32 1#32))

/-- The result from the last labels. -/
def result (x : Vec F S4096x8 .f32) (lab : Vec F S4096 .i32) : Vec F S4096 .i32 :=
  take (ext (cid x lab) (constantI S1 32 4294967295#32)) (root x lab)

/-! ### The run -/

variable (m : (ℓ : Loc nD τ sig) → Buf (Elt F) ℓ) (ρ : Dev nD → PrngReg)

/-- The argument as launched. -/
abbrev arg (c : Dev nD) : Vec F S4096x8 .f32 := m ((c.tc : Thread nD τ).loc main_arg0)

/-- The lines before the loop leave the argument as launched. -/
theorem entry_arg (c : Dev nD) : entryContents preI m c (Proc.devRef .tc main_arg0) = arg m c := by
  show after hostOps0_2 (after hostOps0_1 (after hostOps0 (launchContents m c))) (Proc.devRef .tc main_arg0) = _
  after_reads_simp

/-- They leave the adjacency, -/
theorem entry_adj (c : Dev nD) : entryContents preI m c (Proc.devRef .tc main_v15) = adj (arg m c) := by
  show after hostOps0_2 (after hostOps0_1 (after hostOps0 (launchContents m c))) (Proc.devRef .tc main_v15) = _
  after_reads_simp
  rfl

/-- the core points, -/
theorem entry_core (c : Dev nD) : entryContents preI m c (Proc.devRef .tc main_v19) = core (arg m c) := by
  show after hostOps0_2 (after hostOps0_1 (after hostOps0 (launchContents m c))) (Proc.devRef .tc main_v19) = _
  after_reads_simp
  rfl

/-- the indices, -/
theorem entry_iota (c : Dev nD) : entryContents preI m c (Proc.devRef .tc main_v20) = (iotaInDim S4096 32 0 : Vec F S4096 .i32) := by
  show after hostOps0_2 (after hostOps0_1 (after hostOps0 (launchContents m c))) (Proc.devRef .tc main_v20) = _
  after_reads_simp

/-- the noise label, -/
theorem entry_noise (c : Dev nD) : entryContents preI m c (Proc.devRef .tc main_c) = (constantI S1 32 4294967295#32 : Vec F S1 .i32) := by
  show after hostOps0_2 (after hostOps0_1 (after hostOps0 (launchContents m c))) (Proc.devRef .tc main_c) = _
  after_reads_simp

/-- the loop's mask, -/
theorem entry_mask (c : Dev nD) : entryContents preI m c (Proc.devRef .tc main_v28_0) = coreAdj (arg m c) := by
  show after hostOps0_2 (after hostOps0_1 (after hostOps0 (launchContents m c))) (Proc.devRef .tc main_v28_0) = _
  after_reads_simp
  rfl

/-- the loop's bound on indices, -/
theorem entry_sent (c : Dev nD) : entryContents preI m c (Proc.devRef .tc main_v28_1) = (constantI S_ 32 4096#32 : Vec F S_ .i32) := by
  show after hostOps0_2 (after hostOps0_1 (after hostOps0 (launchContents m c))) (Proc.devRef .tc main_v28_1) = _
  after_reads_simp
  rfl

/-- and the starting labels. -/
theorem entry_lab (c : Dev nD) : entryContents preI m c (Proc.devRef .tc main_v28_3) = lab0 (arg m c) := by
  show after hostOps0_2 (after hostOps0_1 (after hostOps0 (launchContents m c))) (Proc.devRef .tc main_v28_3) = _
  after_reads_simp
  simp -implicitDefEqProofs only [TRef.ofBuf_toBuf]
  simp -implicitDefEqProofs only [TRef.toBuf, TRef.ofBuf, cast_cast, cast_eq]
  refine (id_eq _).trans ?_
  unfold lab0
  rfl

/-- A buffer that neither the condition nor the body writes is through every trip as at the entry. -/
theorem trip_keep (c : Dev nD) (b : Ref sig .tc) (hc : b ∉ condOps_W) (h0 : b ∉ while0Ops0_W) (h1 : b ∉ while0Ops0_1_W)
    (h2 : b ∉ while0Ops0_2_W) : ∀ k, atK m k c (Proc.devRef .tc b) = entryContents preI m c (Proc.devRef .tc b)
  | 0 => rfl
  | k + 1 => by
    show after while0Ops0_2 (after while0Ops0_1 (after while0Ops0 (after condOps (atK m k c)))) (Proc.devRef .tc b) = _
    rw [after_of_writes_sub _ _ while0Ops0_2_writes h2, after_of_writes_sub _ _ while0Ops0_1_writes h1,
      after_of_writes_sub _ _ while0Ops0_writes h0, after_of_writes_sub _ _ condOps_writes hc]
    exact trip_keep c b hc h0 h1 h2 k

/-- The contents that the lines after the loop start from. -/
abbrev exitV (c : Dev nD) : Valuation τ sig (Elt F) := after condOps (atK m 32 c)

/-- A buffer that the loop does not write is there as at the entry. -/
theorem exit_keep (c : Dev nD) (b : Ref sig .tc) (hc : b ∉ condOps_W) (h0 : b ∉ while0Ops0_W) (h1 : b ∉ while0Ops0_1_W)
    (h2 : b ∉ while0Ops0_2_W) : exitV m c (Proc.devRef .tc b) = entryContents preI m c (Proc.devRef .tc b) :=
  (after_of_writes_sub condOps _ condOps_writes hc).trans (trip_keep m c b hc h0 h1 h2 32)

/-- The mask and the bound stay through the rounds, and the labels step. -/
theorem iter_eq (c : Dev nD) : ∀ k, (STEP^[k] (entryContents preI m c)) (Proc.devRef .tc main_v28_0) = coreAdj (arg m c)
    ∧ (STEP^[k] (entryContents preI m c)) (Proc.devRef .tc main_v28_1) = (constantI S_ 32 4096#32 : Vec F S_ .i32)
    ∧ (STEP^[k] (entryContents preI m c)) (Proc.devRef .tc main_v28_3) = labs (arg m c) k
  | 0 => ⟨entry_mask m c, entry_sent m c, entry_lab m c⟩
  | k + 1 => by
    obtain ⟨h0, h1, h3⟩ := iter_eq c k
    rw [Function.iterate_succ_apply']
    refine ⟨(STEP_main_v28_0 _).trans h0, (STEP_main_v28_1 _).trans h1, (STEP_main_v28_3 _).trans ?_⟩
    unfold step_main_v28_3 res_main_while0b_v53
    rw [h0, h1, h3]
    refine (id_eq _).trans ?_
    show _ = jump (hook (coreAdj (arg m c)) (labs (arg m c) k))
    unfold jump take ext wrap hook least
    rfl

/-- The labels that the loop leaves. -/
theorem exit_lab (c : Dev nD) : exitV m c (Proc.devRef .tc main_v28_3) = labs (arg m c) 32 :=
  (cond_keeps _ main_v28_3 (by decide)).trans ((atK_agree m c 32 main_v28_3 (by decide)).trans (iter_eq m c 32).2.2)

/-- The lines after the loop, from any contents: the argument is left alone, -/
theorem post_arg (V : Valuation τ sig (Elt F)) : afterL postI V (Proc.devRef .tc main_arg0) = V (Proc.devRef .tc main_arg0) := by
  show after hostOps0_9 (after hostOps0_8 (after hostOps0_7 (after hostOps0_6 (after hostOps0_5 (after hostOps0_4 (after hostOps0_3 V)))))) (Proc.devRef .tc main_arg0) = _
  after_reads_simp

/-- The last lines of the program, the widened table by its name. -/
abbrev lastOps : List (HloOp τ sig (Elt F)) :=
  [ StableHlo.nullary main_c_10 (constantI S_ 32 1#32),
    StableHlo.unary main_c_10 main_v40 (broadcastInDim S4096 ![] bcast_S_S4096 : (⟨S_, .i32⟩ : BufTy).Contents (Elt F) → (⟨S4096, .i32⟩ : BufTy).Contents (Elt F)),
    StableHlo.binary main_v39 main_v40 main_v41 (subi : (⟨S4096, .i32⟩ : BufTy).Contents (Elt F) → (⟨S4096, .i32⟩ : BufTy).Contents (Elt F) → (⟨S4096, .i32⟩ : BufTy).Contents (Elt F)),
    StableHlo.binary main_v41 main_c main_v42 (ext (F := F)),
    StableHlo.nullary main_c_11 (constantI S_ 32 0#32),
    StableHlo.unary main_c_11 main_v43 (broadcastInDim S4096 ![] bcast_S_S4096 : (⟨S_, .i32⟩ : BufTy).Contents (Elt F) → (⟨S4096, .i32⟩ : BufTy).Contents (Elt F)),
    StableHlo.binary main_v35 main_v43 main_v44 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4097#32),
    StableHlo.unary main_c_12 main_v45 (broadcastInDim S4096 ![] bcast_S_S4096 : (⟨S_, .i32⟩ : BufTy).Contents (Elt F) → (⟨S4096, .i32⟩ : BufTy).Contents (Elt F)),
    StableHlo.binary main_v35 main_v45 main_v46 (addi : (⟨S4096, .i32⟩ : BufTy).Contents (Elt F) → (⟨S4096, .i32⟩ : BufTy).Contents (Elt F) → (⟨S4096, .i32⟩ : BufTy).Contents (Elt F)),
    StableHlo.ternary main_v44 main_v46 main_v35 main_v47 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v47 main_v48 (broadcastInDim S4096x1 ![0] bcast_S4096_S4096x1_0 : (⟨S4096, .i32⟩ : BufTy).Contents (Elt F) → (⟨S4096x1, .i32⟩ : BufTy).Contents (Elt F)),
    StableHlo.binary main_v42 main_v48 main_v49 ((fun x i => Host.gather gather_S4097_S4096x1_S4096_n_0_n_n_0_1_1 x i) : (⟨S4097, .i32⟩ : BufTy).Contents (Elt F) → (⟨S4096x1, .i32⟩ : BufTy).Contents (Elt F) → (⟨S4096, .i32⟩ : BufTy).Contents (Elt F)) ]

/-- They are the program's. -/
theorem lastOps_eq : (hostOps0_9 : List (HloOp τ sig (Elt F))) = lastOps := rfl

/-- and the result is `result`. -/
theorem post_result (V : Valuation τ sig (Elt F)) (x : Vec F S4096x8 .f32) (lab : Vec F S4096 .i32)
    (h15 : V (Proc.devRef .tc main_v15) = adj x) (h19 : V (Proc.devRef .tc main_v19) = core x)
    (h20 : V (Proc.devRef .tc main_v20) = (iotaInDim S4096 32 0 : Vec F S4096 .i32))
    (hc : V (Proc.devRef .tc main_c) = (constantI S1 32 4294967295#32 : Vec F S1 .i32))
    (hl : V (Proc.devRef .tc main_v28_3) = lab) : afterL postI V (Proc.devRef .tc main_v49) = result x lab := by
  show after hostOps0_9 (after hostOps0_8 (after hostOps0_7 (after hostOps0_6 (after hostOps0_5 (after hostOps0_4 (after hostOps0_3 V)))))) (Proc.devRef .tc main_v49) = _
  rw [lastOps_eq]
  after_reads_simp
  simp -implicitDefEqProofs only [TRef.ofBuf_toBuf]
  simp -implicitDefEqProofs only [TRef.toBuf, TRef.ofBuf, cast_cast, cast_eq]
  rw [h15, h19, h20, hc, hl]
  rfl

/-- The reference ends with its result at `result` of the labels after 32 rounds and its argument unchanged. -/
theorem run_value :
    θ_run (Cert.ReferenceIdeal.defs (F := F)) (onTc (τ := τ) (main (F := F))) ⟨m, fun _ => 0, ρ⟩
      (fun r => ∀ c : Dev nD, r.2.mem ((c.tc : Thread nD τ).loc main_v49) = result (arg m c) (labs (arg m c) 32)
        ∧ r.2.mem ((c.tc : Thread nD τ).loc main_arg0) = m ((c.tc : Thread nD τ).loc main_arg0)) :=
  (θ_run _ _ _).mono (fun _ h c => ⟨(h c main_v49 rfl).trans
      (post_result (exitV m c) (arg m c) _
        ((exit_keep m c main_v15 (by decide) (by decide) (by decide) (by decide)).trans (entry_adj m c))
        ((exit_keep m c main_v19 (by decide) (by decide) (by decide) (by decide)).trans (entry_core m c))
        ((exit_keep m c main_v20 (by decide) (by decide) (by decide) (by decide)).trans (entry_iota m c))
        ((exit_keep m c main_c (by decide) (by decide) (by decide) (by decide)).trans (entry_noise m c))
        (exit_lab m c)),
    (h c main_arg0 rfl).trans ((post_arg (exitV m c)).trans
      ((exit_keep m c main_arg0 (by decide) (by decide) (by decide) (by decide)).trans (entry_arg m c)))⟩) (run_fold m ρ)

/-- The reference ends with its argument unchanged and its semaphores at rest. -/
theorem run_frame :
    θ_run (Cert.ReferenceIdeal.defs (F := F)) (onTc (τ := τ) (main (F := F))) ⟨m, fun _ => 0, ρ⟩
      (fun r => (∀ c : Dev nD, r.2.mem ((c.tc : Thread nD τ).loc main_arg0) = m ((c.tc : Thread nD τ).loc main_arg0))
        ∧ r.2.sem = fun _ => 0) :=
  (θ_run _ _ _).mono (fun r h => ⟨fun c => (h c).2, Idealize.ShloMosaic.sem_eq_zero_of_no_sems (by decide) r.2⟩) (run_value m ρ)

end Cert.Proof.RI

end
-- ==== Proof.RI.Read.lean ====
/-
  The reference's vectors read over the extended reals, each as the function of Proof/Math it computes: the graph, the
  rounds, the representatives, their numbers, and the result as the final label.
-/
module

public import proofs.«01_k».proof.Proof.RI.Run
public import proofs.«01_k».proof.Proof.Math.Near
public import Idealize.ShloMosaic.Lib.StableHlo.ReadAt
public import Idealize.ShloMosaic.Lib.IndicatorCount
public import Idealize.ShloMosaic.Lib.Routing.Ops
public import Idealize.ShloMosaic.Lib.Routing.OpsSearch

@[expose] public section

set_option maxRecDepth 16384

noncomputable section

namespace Cert.Proof.RI

open Cert.ReferenceIdeal Cert.ReferenceIdeal.Gen
open Idealize.ShloMosaic
open Cert.Proof.Math (near isCore bit select_bit ofBool_bit radius_nonneg near_symm plain start nbr look cnt label Inv)
open Classical

/-- A whole number as a word. -/
abbrev word (k : ℕ) : BitVec 32 := BitVec.ofNat 32 k

/-- Labels as the reference holds them. -/
abbrev enc (ℓ : Fin 4096 → ℕ) : Vec Ideal S4096 .i32 := fun i => word (ℓ (i 0))

/-- Small words are equal when their numbers are. -/
theorem word_inj {a b : ℕ} (ha : a ≤ 4096) (hb : b ≤ 4096) : word a = word b ↔ a = b := by
  refine ⟨fun h => ?_, fun h => by rw [h]⟩
  have := congrArg BitVec.toNat h
  simp only [BitVec.toNat_ofNat] at this
  omega

/-- The number of a small word. -/
theorem word_toInt {a : ℕ} (ha : a < 2 ^ 31) : (word a).toInt = (a : ℤ) := by
  rw [BitVec.toInt_eq_toNat_of_lt] <;> simp only [BitVec.toNat_ofNat] <;> omega

/-- The lesser of two small words. -/
theorem word_min {a b : ℕ} (ha : a < 2 ^ 31) (hb : b < 2 ^ 31) : IntOp.minsi (word a) (word b) = word (min a b) := by
  unfold IntOp.minsi
  rw [BitVec.slt_eq_decide, word_toInt ha, word_toInt hb]
  by_cases h : a < b
  · rw [min_eq_left h.le, decide_eq_true (by exact_mod_cast h)]
    rfl
  · rw [min_eq_right (not_lt.mp h), decide_eq_false (by exact_mod_cast h)]
    rfl

/-- The least of small words. -/
theorem fold_word {ι : Type} [Fintype ι] [Nonempty ι] (f : ι → ℕ) (hf : ∀ j, f j ≤ 4096) :
    (Finset.univ : Finset ι).fold IntOp.minsi 2147483647#32 (fun j => word (f j)) = word ((Finset.univ : Finset ι).fold min 4096 f) := by
  have h : ∀ s : Finset ι, s.fold IntOp.minsi 2147483647#32 (fun j => word (f j)) = word (s.fold min 2147483647 f) ∧ s.fold min 2147483647 f ≤ 2147483647 := by
    intro s
    induction s using Finset.induction_on with
    | empty => exact ⟨rfl, le_rfl⟩
    | insert a s ha ih =>
      rw [Finset.fold_insert ha, Finset.fold_insert ha, ih.1, word_min (by have := hf a; omega) (by have := ih.2; omega)]
      exact ⟨rfl, le_trans (min_le_right _ _) ih.2⟩
  rw [(h _).1]
  congr 1
  refine le_antisymm ((Finset.le_fold_min _).mpr ⟨?_, fun j hj => (Finset.fold_min_le _).mpr (.inr ⟨j, hj, le_rfl⟩)⟩)
    ((Finset.le_fold_min _).mpr ⟨(Finset.fold_min_le _).mpr (.inl (by norm_num)), fun j hj => (Finset.fold_min_le _).mpr (.inr ⟨j, hj, le_rfl⟩)⟩)
  exact (Finset.fold_min_le _).mpr (.inr ⟨Classical.arbitrary ι, Finset.mem_univ _, hf _⟩)

/-! ### The graph -/

/-- An entry of the adjacency mask. -/
theorem adj_ix (x : Vec Ideal S4096x8 .f32) (i j : Fin 4096) : adj x (ix2 i j) = bit (near x i j) := by
  clean_types
  pointwise [adj, dist, sq]
  refine ofBool_bit ?_
  rw [max_le_iff]
  exact and_iff_left radius_nonneg

/-- A neighbour count. -/
theorem deg_ix (x : Vec Ideal S4096x8 .f32) (i : Fin 4096) : deg x (ix1 i) = word (Finset.univ.filter fun j => near x i j).card := by
  unfold deg
  clean_types
  pointwise
  rw [IndicatorCount.fold_addi_setWidth_eq_card]
  congr 2
  ext j
  rw [Finset.mem_filter, Finset.mem_filter, adj_ix]
  refine and_congr_right fun _ => ?_
  by_cases h : near x i j <;> simp [h]

/-- The core points' mask. -/
theorem core_ix (x : Vec Ideal S4096x8 .f32) (i : Fin 4096) : core x (ix1 i) = bit (isCore x i) := by
  pointwise [core]
  rw [deg_ix]
  have hc : (Finset.univ.filter fun j => near x i j).card ≤ 4096 := (Finset.card_le_univ _).trans (Fintype.card_fin 4096).le
  have h : (¬ (word (Finset.univ.filter fun j => near x i j).card).slt 5#32) ↔ isCore x i := by
    rw [BitVec.slt_eq_decide, word_toInt (by omega), show (5#32 : BitVec 32).toInt = 5 by decide, decide_eq_true_eq]
    unfold isCore
    omega
  rw [← ofBool_bit h]
  simp only [IntOp.cmpi, BitVec.sle_eq_not_slt]
  generalize (word (Finset.univ.filter fun j => near x i j).card).slt 5#32 = b
  cases b <;> rfl

/-- An entry of the core pairs' mask. -/
theorem coreAdj_ix (x : Vec Ideal S4096x8 .f32) (i j : Fin 4096) : coreAdj x (ix2 i j) = bit ((near x i j ∧ isCore x j) ∧ isCore x i) := by
  pointwise [coreAdj, colsOf]
  rw [adj_ix, core_ix, core_ix]
  by_cases h1 : near x i j <;> by_cases h2 : isCore x j <;> by_cases h3 : isCore x i <;> simp [h1, h2, h3, IntOp.andi]

/-- An entry of the mask of neighbours that are core points. -/
theorem adjCore_ix (x : Vec Ideal S4096x8 .f32) (i j : Fin 4096) : andi (adj x) (colsOf (F := Ideal) (core x)) (ix2 i j) = bit (near x i j ∧ isCore x j) := by
  pointwise [colsOf]
  rw [adj_ix, core_ix]
  by_cases h1 : near x i j <;> by_cases h2 : isCore x j <;> simp [h1, h2, IntOp.andi]

/-! ### The rounds -/

/-- The least label over the pairs of a mask. -/
theorem least_ix (mask : Vec Ideal S4096x4096 .i1) (P : Fin 4096 → Fin 4096 → Prop) (hm : ∀ i j, mask (ix2 i j) = bit (P i j))
    (ℓ : Fin 4096 → ℕ) (hℓ : ∀ v, ℓ v ≤ 4096) (i : Fin 4096) :
    least (F := Ideal) mask (enc ℓ) (ix1 i) = word ((Finset.univ : Finset (Fin 4096)).fold min 4096 fun j => if P i j then ℓ j else 4096) := by
  unfold least
  clean_types
  pointwise
  rw [← fold_word _ (fun j => by split <;> [exact hℓ j; exact le_rfl])]
  refine congrArg (fun g => Finset.fold IntOp.minsi 2147483647#32 g Finset.univ) (funext fun j => ?_)
  rw [hm, select_bit, apply_ite word]
  rfl

/-- The labels after a round. -/
theorem hook_enc (x : Vec Ideal S4096x8 .f32) (ℓ : Fin 4096 → ℕ) (hℓ : ∀ v, ℓ v ≤ 4096) :
    hook (F := Ideal) (coreAdj x) (enc ℓ) = enc (Math.hook (near x) (isCore x) ℓ) := by
  funext i
  idx_vars i
  unfold hook
  pointwise
  rw [least_ix _ _ (coreAdj_ix x) ℓ hℓ]
  show IntOp.minsi (word (ℓ i0)) _ = word (Math.hook (near x) (isCore x) ℓ i0)
  rw [word_min (by have := hℓ i0; omega) (lt_of_le_of_lt ((Finset.fold_min_le _).mpr (.inl le_rfl)) (by norm_num : 4096 < 2 ^ 31))]
  congr 1
  unfold Math.hook nbr
  by_cases h : isCore x i0
  · rw [if_pos h]
    simp only [h, and_true]
  · rw [if_neg h]
    simp only [h, and_false, if_false]
    refine min_eq_left ((Finset.le_fold_min _).mpr ⟨hℓ i0, fun j _ => hℓ i0⟩)

/-- A table with one more entry, looked up. -/
theorem take_ext (t : Vec Ideal S4096 .i32) (e : Vec Ideal S1 .i32) (ℓ : Fin 4096 → ℕ) (hℓ : ∀ v, ℓ v ≤ 4096) (i : Fin 4096) :
    take (F := Ideal) (ext (F := Ideal) t e) (enc ℓ) (ix1 i) = if h : ℓ i < 4096 then t (ix1 ⟨ℓ i, h⟩) else e (ix1 0) := by
  have hw : wrap (F := Ideal) (enc ℓ) (ix2 i 0) = word (ℓ i) := by
    pointwise [wrap]
    have h0 : IntOp.cmpi CmpIPredicate.slt (word (ℓ i)) 0#32 = 0#1 := by
      have := hℓ i
      have h1 : (word (ℓ i)).slt 0#32 = false := by
        rw [BitVec.slt_eq_decide, word_toInt (by omega), show (0#32 : BitVec 32).toInt = 0 by decide]
        exact decide_eq_false (by omega)
      show BitVec.ofBool ((word (ℓ i)).slt 0#32) = 0#1
      rw [h1]
      rfl
    show Scalar.select (IntOp.cmpi CmpIPredicate.slt (word (ℓ i)) 0#32) _ (word (ℓ i)) = _
    rw [h0]
    rfl
  have hk : ℓ i < 4097 := by have := hℓ i; omega
  have ht : take (F := Ideal) (ext (F := Ideal) t e) (enc ℓ) (ix1 i) = ext (F := Ideal) t e (ix1 ⟨ℓ i, hk⟩) := by
    unfold take
    exact Routing.take_ap _ rfl rfl rfl rfl _ _ i hk (by omega) hw
  rw [ht]
  pointwise [ext]
  split
  · rfl
  · have h0 : ℓ i - 4096 = 0 := by omega
    refine congrArg e (funext fun a => ?_)
    obtain rfl : a = 0 := Subsingleton.elim (α := Fin 1) _ _
    exact Subsingleton.elim (α := Fin 1) _ _

/-- The labels after a jump. -/
theorem jump_enc (ℓ : Fin 4096 → ℕ) (hℓ : ∀ v, ℓ v ≤ 4096) : jump (F := Ideal) (enc ℓ) = enc (Math.jump ℓ) := by
  funext i
  idx_vars i
  unfold jump
  pointwise
  rw [take_ext _ _ ℓ hℓ]
  have hl : (if h : ℓ i0 < 4096 then enc ℓ (ix1 ⟨ℓ i0, h⟩) else broadcastInDim S1 ![] bcast_S_S1 (constantI S_ 32 4096#32) (ix1 0)) = word (look ℓ (ℓ i0)) := by
    unfold look
    split <;> rfl
  rw [hl]
  have : look ℓ (ℓ i0) ≤ 4096 := by
    unfold look
    split <;> [exact hℓ _; exact le_rfl]
  exact word_min (show ℓ i0 < 2 ^ 31 by have := hℓ i0; omega) (by omega)

/-- The starting labels. -/
theorem lab0_enc (x : Vec Ideal S4096x8 .f32) : lab0 x = enc (start (isCore x)) := by
  funext i
  idx_vars i
  pointwise [lab0]
  rw [core_ix, select_bit]
  show (if isCore x i0 then word i0.val else word 4096) = word (start (isCore x) i0)
  rw [← apply_ite word]
  rfl

/-- The labels the plain rounds come to. -/
abbrev final (x : Vec Ideal S4096x8 .f32) : Fin 4096 → ℕ := plain (near x) (isCore x) 32

section

variable {x : Vec Ideal S4096x8 .f32} (hH : Math.hook (near x) (isCore x) (final x) = final x)
include hH

/-- The labels on the way. -/
theorem labs_enc (n : ℕ) : ∃ ℓ : Fin 4096 → ℕ, Inv (near x) (isCore x) 32 n ℓ ∧ labs x n = enc ℓ := by
  induction n with
  | zero => exact ⟨start (isCore x), Math.inv_start _ _ 32, lab0_enc x⟩
  | succ n ih =>
    obtain ⟨ℓ, hI, hl⟩ := ih
    refine ⟨Math.jump (Math.hook (near x) (isCore x) ℓ), Math.inv_jump _ _ 32 (near_symm x) hH hI, ?_⟩
    show jump (hook (coreAdj x) (labs x n)) = _
    rw [hl, hook_enc x ℓ (Math.good_le_n _ hI.1)]
    exact jump_enc _ (Math.good_le_n _ (Math.inv_hook _ _ 32 (near_symm x) hH hI).1)

/-- The labels after the last round. -/
theorem labs_final : labs x 32 = enc (final x) := by
  obtain ⟨ℓ, hI, hl⟩ := labs_enc hH 32
  rw [hl, Math.inv_eq _ _ 32 (near_symm x) hH hI le_rfl]

end

/-! ### The result -/

/-- The representatives. -/
theorem root_enc (x : Vec Ideal S4096x8 .f32) (ℓ : Fin 4096 → ℕ) (hℓ : ∀ v, ℓ v ≤ 4096) :
    root (F := Ideal) x (enc ℓ) = enc (Math.root (near x) (isCore x) ℓ) := by
  funext i
  idx_vars i
  unfold root
  pointwise
  rw [core_ix, select_bit, least_ix _ _ (adjCore_ix x) ℓ hℓ]
  show _ = word (Math.root (near x) (isCore x) ℓ i0)
  unfold Math.root
  by_cases h : isCore x i0
  · rw [if_pos h, if_pos h]
    rfl
  · rw [if_neg h, if_neg h]
    exact congrArg word (Finset.fold_congr fun j _ => by congr)

/-- A running count as a sum along the indices. -/
theorem cnt_sum (core : Fin 4096 → Prop) (ℓ : Fin 4096 → ℕ) (k : Fin 4096) :
    ((List.range (k.val + 1)).map fun j => if h : j < 4096 then (if core ⟨j, h⟩ ∧ ℓ ⟨j, h⟩ = j then 1 else 0) else 0).sum = cnt core ℓ k.val := by
  have e : ∀ (f : ℕ → ℕ) (n : ℕ), ((List.range n).map f).sum = ∑ j ∈ Finset.range n, f j := fun f n => by
    induction n with
    | zero => rfl
    | succ n ih => rw [List.range_succ, List.map_append, List.sum_append, ih, Finset.sum_range_succ]; simp
  rw [e]
  unfold cnt
  rw [Finset.card_filter]
  have h2 := Finset.sum_range (n := 4096) (fun j => if j ≤ k.val then (if h : j < 4096 then (if core ⟨j, h⟩ ∧ ℓ ⟨j, h⟩ = j then 1 else 0) else 0) else 0)
  refine Eq.trans ?_ (h2.trans (Finset.sum_congr rfl fun j _ => ?_))
  · rw [← Finset.sum_filter]
    refine Finset.sum_congr ?_ fun _ _ => rfl
    ext j
    have := k.isLt
    simp only [Finset.mem_filter, Finset.mem_range]
    omega
  · rw [dif_pos j.isLt]
    by_cases h : j.val ≤ k.val <;> simp [h]

/-- The clusters' numbers. -/
theorem cid_ix (x : Vec Ideal S4096x8 .f32) (ℓ : Fin 4096 → ℕ) (hℓ : ∀ v, ℓ v ≤ 4096) (k : Fin 4096) :
    cid (F := Ideal) x (enc ℓ) (ix1 k) = BitVec.ofInt 32 ((cnt (isCore x) ℓ k.val : ℤ) - 1) := by
  have hm : ∀ i : Fin 4096, extui 32 (andi (core x) (cmpi .eq (enc ℓ) (iotaInDim S4096 32 0))) natLt_1_32 (ix1 i)
      = word (if h : i.val < 4096 then (if isCore x ⟨i.val, h⟩ ∧ ℓ ⟨i.val, h⟩ = i.val then 1 else 0) else 0) := fun i => by
    rw [dif_pos i.isLt]
    pointwise
    rw [core_ix]
    have he : IntOp.cmpi .eq (enc ℓ (ix1 i)) (BitVec.ofNat 32 i.val) = bit (ℓ i = i.val) :=
      ofBool_bit (word_inj (hℓ i) i.isLt.le)
    rw [he]
    by_cases h1 : isCore x i <;> by_cases h2 : ℓ i = i.val <;> simp [h1, h2, IntOp.andi]
  unfold cid
  show _ - 1#32 = _
  rw [show Host.reduceWindow IntOp.addi ![4096] ![1] ![4095] ![0]
      (extui 32 (andi (core x) (cmpi .eq (enc ℓ) (iotaInDim S4096 32 0))) natLt_1_32)
      (broadcastInDim S_ ![] bcast_S_S_ (constantI S_ 32 0#32)) reduceWindows_S4096_S4096_w4096s1p4095_0 h_S_ (ix1 k) = word (cnt (isCore x) ℓ k.val) from
    (Routing.cumsum1 (by norm_num) _ _ hm _ rfl reduceWindows_S4096_S4096_w4096s1p4095_0 h_S_ k).trans (congrArg word (cnt_sum _ _ k))]
  rw [Int.sub_eq_add_neg, BitVec.ofInt_add, BitVec.ofInt_natCast, BitVec.sub_eq_add_neg]
  exact congrArg (word (cnt (isCore x) ℓ k.val) + ·) (show -1#32 = BitVec.ofInt 32 (-1) by decide)

/-- The result: the final label as a word. -/
theorem result_enc (x : Vec Ideal S4096x8 .f32) (ℓ : Fin 4096 → ℕ) (hℓ : ∀ v, ℓ v ≤ 4096) :
    result (F := Ideal) x (enc ℓ) = fun i => BitVec.ofInt 32 (label (near x) (isCore x) ℓ (i 0)) := by
  funext i
  idx_vars i
  unfold result
  rw [root_enc x ℓ hℓ, take_ext]
  · show _ = BitVec.ofInt 32 (label (near x) (isCore x) ℓ i0)
    unfold label
    split
    · exact cid_ix x ℓ hℓ _
    · rfl
  · intro v
    unfold Math.root
    split <;> [exact hℓ v; exact Math.nbr_le_n _ _ _ _]

end Cert.Proof.RI

end
-- ==== Proof.RI.Pre.lean ====
/-
  What the precondition says of the labels: 32 plain rounds from the starting labels reach a fixed point of a round.
-/
module

public import proofs.«01_k».proof.Pre_clusters_within_hops
public import proofs.«01_k».proof.Proof.RI.Read

@[expose] public section

noncomputable section

namespace Cert.Proof.RI

open Idealize.ShloMosaic

/-- The shape relations of the precondition's operations. -/
theorem preFacts : Pre_clusters_within_hops.Facts where
  reducesTo_S4096x8_S4096_d1 := by decide
  h_S_ := by decide
  bcast_S4096_S4096x1_0 := by decide
  bcast_S4096_S1x4096_1 := by decide
  bcast_S4096x1_S4096x4096_0_1 := by decide
  bcast_S1x4096_S4096x4096_0_1 := by decide
  transposes_S4096x8_S8x4096_1_0 := by decide
  bcast_S_S4096x4096 := by decide
  natLt_1_32 := by decide
  reducesTo_S4096x4096_S4096_d1 := by decide
  bcast_S_S4096 := by decide
  dot_S4096x8_S8x4096_S4096x4096_1_0_0_1_n_n_wf := by decide

attribute [local instance] preFacts

/-- The labels after so many plain rounds, as the reference's operations give them. -/
def rounds (mask : Vec Ideal ReferenceIdeal.S4096x4096 .i1) (lab : Vec Ideal ReferenceIdeal.S4096 .i32) : ℕ → Vec Ideal ReferenceIdeal.S4096 .i32
  | 0 => lab
  | n + 1 => hook mask (rounds mask lab n)

/-- The precondition compares the labels after the 32nd round with the next round's. -/
theorem pre_eq (x : Vec Ideal ReferenceIdeal.S4096x8 .f32) :
    Pre_clusters_within_hops.fn (F := Ideal) x = cmpi .eq (rounds (coreAdj x) (lab0 x) 33) (rounds (coreAdj x) (lab0 x) 32) := rfl

/-- A starting label is at most 4096. -/
theorem start_le (x : Vec Ideal ReferenceIdeal.S4096x8 .f32) (v : Fin 4096) : Math.start (Math.isCore x) v ≤ 4096 := by
  unfold Math.start
  split <;> [exact v.isLt.le; exact le_rfl]

/-- The plain rounds' labels. -/
theorem rounds_enc (x : Vec Ideal ReferenceIdeal.S4096x8 .f32) (n : ℕ) :
    rounds (coreAdj x) (lab0 x) n = enc (Math.plain (Math.near x) (Math.isCore x) n) := by
  induction n with
  | zero => exact lab0_enc x
  | succ n ih =>
    show hook (coreAdj x) (rounds (coreAdj x) (lab0 x) n) = _
    rw [ih, hook_enc x _ (fun v => (Math.plain_le_start _ _ n v).trans (start_le x v))]
    rfl

/-- Under the precondition the plain labels are a fixed point of a round. -/
theorem fixed_of_pre (x : Vec Ideal ReferenceIdeal.S4096x8 .f32) (h : Pre_clusters_within_hops.fn (F := Ideal) x = fun _ => 1#1) :
    Math.hook (Math.near x) (Math.isCore x) (final x) = final x := by
  funext v
  rw [pre_eq, rounds_enc, rounds_enc] at h
  have hv := congrFun h (ix1 v)
  have hb : ∀ n, Math.plain (Math.near x) (Math.isCore x) n v ≤ 4096 := fun n => (Math.plain_le_start _ _ n v).trans (start_le x v)
  have e : word (Math.plain (Math.near x) (Math.isCore x) 33 v) = word (Math.plain (Math.near x) (Math.isCore x) 32 v) := by
    by_contra hne
    have hb0 : BitVec.ofBool (decide (word (Math.plain (Math.near x) (Math.isCore x) 33 v) = word (Math.plain (Math.near x) (Math.isCore x) 32 v))) = 1#1 := hv
    rw [decide_eq_false hne] at hb0
    exact absurd hb0 (by decide)
  exact (word_inj (hb 33) (hb 32)).mp e

end Cert.Proof.RI

end
-- ==== Proof.lean ====
/-
  The proof of `Cert.Claim`: the programs' stated facts, and each claim from the modules that prove it.
-/
module

public import proofs.«01_k».proof.Defs
public import proofs.«01_k».proof.Proof.KB.Run
public import proofs.«01_k».proof.Proof.KI.Run
public import proofs.«01_k».proof.Proof.KI.Count
public import proofs.«01_k».proof.Proof.RI.Pre

@[expose] public section

noncomputable section

namespace Cert.Proof

open Idealize.ShloMosaic Idealize.SL.Sem

/-- The kernel, bit by bit, ends without fault, its argument unchanged. -/
theorem frame_kernel : Cert.quiescent_Kernel := fun m ρ _ => Cert.Proof.KB.run_frame (F := Bits) m ρ

/-- So does the kernel over the extended reals, -/
theorem frame_ideal : Cert.quiescent_KernelIdeal := fun m ρ _ => Cert.Proof.KI.run_frame (F := Ideal) m ρ

/-- and the reference over the extended reals. -/
theorem frame_reference : Cert.quiescent_ReferenceIdeal := fun m ρ _ => Cert.Proof.RI.run_frame (F := Ideal) m ρ

/-- The labels both programs give: the cluster numbers of the points, in order, as words. -/
def labels (x : Vec Ideal Cert.ReferenceIdeal.S4096x8 .f32) : Vec Ideal Cert.ReferenceIdeal.S4096 .i32 :=
  fun i => BitVec.ofInt 32 (Math.label (Math.near x) (Math.isCore x) (RI.final x) (i 0))

/-- The kernel's row of labels, taken as a vector. -/
theorem labels_row (x : Vec Ideal Cert.ReferenceIdeal.S4096x8 .f32) :
    (shapeCast Cert.KernelIdeal.S4096
      ((fun i => BitVec.ofInt 32 (Math.label (Math.near x) (Math.isCore x) (RI.final x) (i 1))) : Vec Ideal Cert.KernelIdeal.S1x4096 .i32)
      Cert.KernelIdeal.Gen.shapeCasts_S1x4096_S4096 : Vec Ideal Cert.KernelIdeal.S4096 .i32) = labels x := by
  funext i
  idx_vars i
  pointwise [labels]

/-- Where the plain labels are settled, the reference's result is these labels. -/
theorem reference_labels (x : Vec Ideal Cert.ReferenceIdeal.S4096x8 .f32)
    (hH : Math.hook (Math.near x) (Math.isCore x) (RI.final x) = RI.final x) :
    RI.result x (RI.labs x 32) = labels x := by
  rw [RI.labs_final hH, RI.result_enc x (RI.final x)
    fun v => (Math.plain_le_start _ _ 32 v).trans (RI.start_le x v)]
  rfl

/-- Where 32 plain rounds settle the labels, kernel and reference give the same labels of the same points. -/
theorem algebraic [Cert.Pre_clusters_within_hops.Facts] : Cert.algebraic_KernelIdeal_ReferenceIdeal_pre_clusters_within_hops := by
  intro m g m' g' hpre harg
  have hH : ∀ c, Math.hook (Math.near (KI.xin m c)) (Math.isCore (KI.xin m c)) (RI.final (KI.xin m c)) = RI.final (KI.xin m c) := fun c => by
    rw [KI.xin_eq]
    exact RI.fixed_of_pre _ (hpre c)
  refine ⟨fun c => labels (KI.xin m c), ?_, ?_⟩
  · refine (θ_run _ _ _).mono (fun r h c => ⟨(h c).1.trans (labels_row (KI.xin m c)), (h c).2⟩)
      (KI.run_value m g (fun c i => BitVec.ofInt 32 (Math.label (Math.near (KI.xin m c)) (Math.isCore (KI.xin m c)) (RI.final (KI.xin m c)) (i 1)))
        fun c p => KI.kOut_eq (hH c) p)
  · refine (θ_run _ _ _).mono (fun r h c => ⟨(h c).1.trans ?_, (h c).2⟩) (RI.run_value m' g')
    have e : RI.arg m' c = KI.xin m c := (harg c).trans (KI.xin_eq m c).symm
    rw [e]
    exact reference_labels _ (hH c)

/-- The certificate's claim. -/
theorem claim : Cert.Claim :=
  ⟨Cert.Kernel.Gen.facts, Cert.KernelIdeal.Gen.facts, Cert.ReferenceIdeal.Gen.facts, RI.preFacts,
    frame_kernel, frame_ideal, fun m ρ _ => Cert.Proof.KI.run_frame (F := Ideal) m ρ,
    frame_reference, fun m ρ _ => Cert.Proof.RI.run_frame (F := Ideal) m ρ, trivial,
    @algebraic RI.preFacts⟩

end Cert.Proof

end
